-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "s" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1x1536 : Shape := ⟨3, ![8, 1, 1536]⟩
abbrev S8x4096x512 : Shape := ⟨3, ![8, 4096, 512]⟩
abbrev S8x4096x64 : Shape := ⟨3, ![8, 4096, 64]⟩
abbrev S1536x3072 : Shape := ⟨2, ![1536, 3072]⟩
abbrev S512x4096 : Shape := ⟨2, ![512, 4096]⟩
abbrev S2048x2048 : Shape := ⟨2, ![2048, 2048]⟩
abbrev S_ : Shape := ⟨0, ![]⟩

class Facts : Prop where
  bcast_S_S8x1x1536 : S_.BroadcastsInDim S8x1x1536 (![] : Fin 0 → Fin S8x1x1536.rank)
  reducesTo_S8x1x1536_S_d0_1_2 : S8x1x1536.ReducesTo [0, 1, 2] S_
  h_S_ : 0 < S_.numel
  bcast_S_S8x4096x512 : S_.BroadcastsInDim S8x4096x512 (![] : Fin 0 → Fin S8x4096x512.rank)
  reducesTo_S8x4096x512_S_d0_1_2 : S8x4096x512.ReducesTo [0, 1, 2] S_
  bcast_S_S8x4096x64 : S_.BroadcastsInDim S8x4096x64 (![] : Fin 0 → Fin S8x4096x64.rank)
  reducesTo_S8x4096x64_S_d0_1_2 : S8x4096x64.ReducesTo [0, 1, 2] S_
  bcast_S_S1536x3072 : S_.BroadcastsInDim S1536x3072 (![] : Fin 0 → Fin S1536x3072.rank)
  reducesTo_S1536x3072_S_d0_1 : S1536x3072.ReducesTo [0, 1] S_
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_arg4 : FVec F S512x4096 .f32) (main_v13 : IVec S_ 1) (main_v16 : IVec S1536x3072 1) : IVec S_ 1 :=
  let main_c_5 : IVec S_ 1 := constantI S_ 1 1#1
  let main_v17 : IVec S_ 1 := (fun x v => Host.reduce IntOp.andi x v reducesTo_S1536x3072_S_d0_1 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  main_v23

def fn {F : FTy → Type} [FloatOps F] (main_arg0 : FVec F S8x1x1536 .f32) (main_arg1 : FVec F S8x4096x512 .f32) (main_arg2 : FVec F S8x4096x64 .f32) (main_arg3 : FVec F S1536x3072 .f32) (main_arg4 : FVec F S512x4096 .f32) (main_arg5 : FVec F S2048x2048 .f32) : IVec S_ 1 :=
  let main_v0 : FVec F S8x1x1536 .f32 := Host.absf main_arg0
  let main_cst : FVec F S_ .f32 := constant S_ .f32 0x7F800000#32
  let main_v1 : FVec F S8x1x1536 .f32 := broadcastInDim S8x1x1536 ![] bcast_S_S8x1x1536 main_cst
  let main_v2 : IVec S8x1x1536 1 := cmpf .olt main_v0 main_v1
  let main_c : IVec S_ 1 := constantI S_ 1 1#1
  let main_v3 : IVec S_ 1 := (fun x v => Host.reduce IntOp.andi x v reducesTo_S8x1x1536_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S1536x3072 .f32 := Host.absf main_arg3
  let main_cst_4 : FVec F S_ .f32 := constant S_ .f32 0x7F800000#32
  let main_v15 : FVec F S1536x3072 .f32 := broadcastInDim S1536x3072 ![] bcast_S_S1536x3072 main_cst_4
  let main_v16 : IVec S1536x3072 1 := cmpf .olt main_v14 main_v15
  fn_part1 (F := F) main_arg4 main_v13 main_v16
-- ==== Kernel.lean ====
abbrev S8x1x1536 : Shape := ⟨3, ![8, 1, 1536]⟩
abbrev S8x4096x512 : Shape := ⟨3, ![8, 4096, 512]⟩
abbrev S8x4096x64 : Shape := ⟨3, ![8, 4096, 64]⟩
abbrev S1536x3072 : Shape := ⟨2, ![1536, 3072]⟩
abbrev S512x4096 : Shape := ⟨2, ![512, 4096]⟩
abbrev S2048x2048 : Shape := ⟨2, ![2048, 2048]⟩
abbrev S8x1536 : Shape := ⟨2, ![8, 1536]⟩
abbrev S8x1x2048 : Shape := ⟨3, ![8, 1, 2048]⟩
abbrev S1x4096x512 : Shape := ⟨3, ![1, 4096, 512]⟩
abbrev S1x4096x64 : Shape := ⟨3, ![1, 4096, 64]⟩
abbrev S8x16x512 : Shape := ⟨3, ![8, 16, 512]⟩
abbrev S8x16x64 : Shape := ⟨3, ![8, 16, 64]⟩
abbrev S4096x64 : Shape := ⟨2, ![4096, 64]⟩
abbrev S_ : Shape := ⟨0, ![]⟩
abbrev S512x32 : Shape := ⟨2, ![512, 32]⟩
abbrev S1x32 : Shape := ⟨2, ![1, 32]⟩
abbrev S1024x32 : Shape := ⟨2, ![1024, 32]⟩
abbrev S2048x32 : Shape := ⟨2, ![2048, 32]⟩
abbrev S4096x32 : Shape := ⟨2, ![4096, 32]⟩
abbrev S1536x192 : Shape := ⟨2, ![1536, 192]⟩
abbrev S8x192 : Shape := ⟨2, ![8, 192]⟩
abbrev S8x128 : Shape := ⟨2, ![8, 128]⟩
abbrev S8x32 : Shape := ⟨2, ![8, 32]⟩
abbrev S8x64 : Shape := ⟨2, ![8, 64]⟩
abbrev S512x128 : Shape := ⟨2, ![512, 128]⟩
abbrev S8x512 : Shape := ⟨2, ![8, 512]⟩
abbrev S8x1x512 : Shape := ⟨3, ![8, 1, 512]⟩
abbrev S8x1x64 : Shape := ⟨3, ![8, 1, 64]⟩
abbrev S512x2048 : Shape := ⟨2, ![512, 2048]⟩
abbrev S512x1024 : Shape := ⟨2, ![512, 1024]⟩
abbrev S4096x512 : Shape := ⟨2, ![4096, 512]⟩
abbrev S1x16x512 : Shape := ⟨3, ![1, 16, 512]⟩
abbrev S16x512 : Shape := ⟨2, ![16, 512]⟩
abbrev S1x16x64 : Shape := ⟨3, ![1, 16, 64]⟩
abbrev S16x64 : Shape := ⟨2, ![16, 64]⟩
abbrev S16x4096 : Shape := ⟨2, ![16, 4096]⟩
abbrev S16x32 : Shape := ⟨2, ![16, 32]⟩
abbrev S16 : Shape := ⟨1, ![16]⟩
abbrev S16x1 : Shape := ⟨2, ![16, 1]⟩
abbrev S8x2048 : Shape := ⟨2, ![8, 2048]⟩
abbrev S128x2048 : Shape := ⟨2, ![128, 2048]⟩
abbrev S128x1024 : Shape := ⟨2, ![128, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8x1x1536, .f32⟩
  | .hbm, ⟨1, _⟩ => ⟨S8x4096x512, .f32⟩
  | .hbm, ⟨2, _⟩ => ⟨S8x4096x64, .f32⟩
  | .hbm, ⟨3, _⟩ => ⟨S1536x3072, .f32⟩
  | .hbm, ⟨4, _⟩ => ⟨S512x4096, .f32⟩
  | .hbm, ⟨5, _⟩ => ⟨S2048x2048, .f32⟩
  | .hbm, ⟨6, _⟩ => ⟨S8x1536, .f32⟩
  | .hbm, ⟨7, _⟩ => ⟨S8x1x2048, .f32⟩
  | .local _ .vmem, ⟨0, _⟩ => ⟨S8x1536, .f32⟩
  | .local _ .vmem, ⟨1, _⟩ => ⟨S512x4096, .f32⟩
  | .local _ .vmem, ⟨2, _⟩ => ⟨S1x4096x512, .f32⟩
  | .local _ .vmem, ⟨3, _⟩ => ⟨S1x4096x512, .f32⟩
  | .local _ .vmem, ⟨4, _⟩ => ⟨S1x4096x64, .f32⟩
  | .local _ .vmem, ⟨5, _⟩ => ⟨S1x4096x64, .f32⟩
  | .local _ .vmem, ⟨6, _⟩ => ⟨S8x1x2048, .f32⟩
  | .local _ .vmem, ⟨7, _⟩ => ⟨S1536x3072, .f32⟩
  | .local _ .vmem, ⟨8, _⟩ => ⟨S8x16x512, .f32⟩
  | .local _ .vmem, ⟨9, _⟩ => ⟨S8x16x64, .f32⟩
  | .local _ .vmem, ⟨10, _⟩ => ⟨S4096x64, .bf16⟩
  | .local _ .vmem, ⟨11, _⟩ => ⟨S8x16x512, .f32⟩
  | _, _ => ⟨S8x1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v22 : Index := Scalar.indexCast arg0
  let c0_10 : Index := 0#32
  let c0_11 : Index := 0#32
  ![v22.toNat, 0, 0]
def k0_off2 (i : grid0.Coords) : Fin 3 → Nat :=
  let arg0 : BitVec 32 := BitVec.ofNat 32 (i 0).val
  let v25 : Index := Scalar.indexCast arg0
  let c0_12 : Index := 0#32
  let c0_13 : Index := 0#32
  ![v25.toNat, 0, 0]
def k0_cond3 (i : grid0.Coords) : BitVec 1 :=
  let arg0 : BitVec 32 := BitVec.ofNat 32 (i 0).val
  let c7_i32 : BitVec 32 := 7#32
  let v49 : BitVec 1 := Scalar.cmpi .eq arg0 c7_i32
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "s" => some (((Real.sqrt 192)⁻¹ : ℝ) : EReal)
  | _ => none
-- ==== ReferenceIdeal.lean ====
abbrev S8x1x1536 : Shape := ⟨3, ![8, 1, 1536]⟩
abbrev S8x4096x512 : Shape := ⟨3, ![8, 4096, 512]⟩
abbrev S8x4096x64 : Shape := ⟨3, ![8, 4096, 64]⟩
abbrev S1536x3072 : Shape := ⟨2, ![1536, 3072]⟩
abbrev S512x4096 : Shape := ⟨2, ![512, 4096]⟩
abbrev S2048x2048 : Shape := ⟨2, ![2048, 2048]⟩
abbrev S8x1x3072 : Shape := ⟨3, ![8, 1, 3072]⟩
abbrev S8x1x16x192 : Shape := ⟨4, ![8, 1, 16, 192]⟩
abbrev S8x1x16x128 : Shape := ⟨4, ![8, 1, 16, 128]⟩
abbrev S8x1x16x64 : Shape := ⟨4, ![8, 1, 16, 64]⟩
abbrev S1 : Shape := ⟨1, ![1]⟩
abbrev S_ : Shape := ⟨0, ![]⟩
abbrev S4096 : Shape := ⟨1, ![4096]⟩
abbrev S1x1 : Shape := ⟨2, ![1, 1]⟩
abbrev S32 : Shape := ⟨1, ![32]⟩
abbrev S1x1x1 : Shape := ⟨3, ![1, 1, 1]⟩
abbrev S1x1x32 : Shape := ⟨3, ![1, 1, 32]⟩
abbrev S8x1x16x32 : Shape := ⟨4, ![8, 1, 16, 32]⟩
abbrev S1x1x1x32 : Shape := ⟨4, ![1, 1, 1, 32]⟩
abbrev S4096x1 : Shape := ⟨2, ![4096, 1]⟩
abbrev S1x32 : Shape := ⟨2, ![1, 32]⟩
abbrev S4096x32 : Shape := ⟨2, ![4096, 32]⟩
abbrev S8x4096x32 : Shape := ⟨3, ![8, 4096, 32]⟩
abbrev S1x4096x32 : Shape := ⟨3, ![1, 4096, 32]⟩
abbrev S8x4096x4096 : Shape := ⟨3, ![8, 4096, 4096]⟩
abbrev S8x4096x16x256 : Shape := ⟨4, ![8, 4096, 16, 256]⟩
abbrev S8x4096x16x128 : Shape := ⟨4, ![8, 4096, 16, 128]⟩
abbrev S8x4096x1x64 : Shape := ⟨4, ![8, 4096, 1, 64]⟩
abbrev S8x4096x16x64 : Shape := ⟨4, ![8, 4096, 16, 64]⟩
abbrev S8x4096x16x192 : Shape := ⟨4, ![8, 4096, 16, 192]⟩
abbrev S8x16x1x4096 : Shape := ⟨4, ![8, 16, 1, 4096]⟩
abbrev S1x4096 : Shape := ⟨2, ![1, 4096]⟩
abbrev S1x1x1x4096 : Shape := ⟨4, ![1, 1, 1, 4096]⟩
abbrev S8x16x1 : Shape := ⟨3, ![8, 16, 1]⟩
abbrev S8x16x1x1 : Shape := ⟨4, ![8, 16, 1, 1]⟩
abbrev S8x16x128x1 : Shape := ⟨4, ![8, 16, 128, 1]⟩
abbrev S8x1x2048 : Shape := ⟨3, ![8, 1, 2048]⟩

abbrev nBuf : Space → Nat
  | .hbm => 125
  | .vmem => 0
  | .smem => 0
  | _ => 0

abbrev bufTy : (tb : Table) → Fin (tcTables nBuf tb) → BufTy
  | .hbm, ⟨0, _⟩ => ⟨S8x1x1536, .f32⟩
  | .hbm, ⟨1, _⟩ => ⟨S8x4096x512, .f32⟩
  | .hbm, ⟨2, _⟩ => ⟨S8x4096x64, .f32⟩
  | .hbm, ⟨3, _⟩ => ⟨S1536x3072, .f32⟩
  | .hbm, ⟨4, _⟩ => ⟨S512x4096, .f32⟩
  | .hbm, ⟨5, _⟩ => ⟨S2048x2048, .f32⟩
  | .hbm, ⟨6, _⟩ => ⟨S8x1x3072, .f32⟩
  | .hbm, ⟨7, _⟩ => ⟨S8x1x16x192, .f32⟩
  | .hbm, ⟨8, _⟩ => ⟨S8x1x16x128, .f32⟩
  | .hbm, ⟨9, _⟩ => ⟨S8x1x16x64, .f32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S4096, .i32⟩
  | .hbm, ⟨15, _⟩ => ⟨S1x1, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S1x1, .f32⟩
  | .hbm, ⟨27, _⟩ => ⟨S1x1x1, .f32⟩
  | .hbm, ⟨28, _⟩ => ⟨S1x1x32, .f32⟩
  | .hbm, ⟨29, _⟩ => ⟨S1x1x32, .f32⟩
  | .hbm, ⟨30, _⟩ => ⟨S1x1x32, .f32⟩
  | .hbm, ⟨31, _⟩ => ⟨S1x1x32, .f32⟩
  | .hbm, ⟨32, _⟩ => ⟨S1x1x32, .f32⟩
  | .hbm, ⟨33, _⟩ => ⟨S8x1x16x32, .f32⟩
  | .hbm, ⟨34, _⟩ => ⟨S8x1x16x32, .f32⟩
  | .hbm, ⟨35, _⟩ => ⟨S1x1x1x32, .f32⟩
  | .hbm, ⟨36, _⟩ => ⟨S8x1x16x32, .f32⟩
  | .hbm, ⟨37, _⟩ => ⟨S8x1x16x32, .f32⟩
  | .hbm, ⟨38, _⟩ => ⟨S1x1x1x32, .f32⟩
  | .hbm, ⟨39, _⟩ => ⟨S8x1x16x32, .f32⟩
  | .hbm, ⟨40, _⟩ => ⟨S8x1x16x32, .f32⟩
  | .hbm, ⟨41, _⟩ => ⟨S8x1x16x32, .f32⟩
  | .hbm, ⟨42, _⟩ => ⟨S1x1x1x32, .f32⟩
  | .hbm, ⟨43, _⟩ => ⟨S8x1x16x32, .f32⟩
  | .hbm, ⟨44, _⟩ => ⟨S8x1x16x32, .f32⟩
  | .hbm, ⟨45, _⟩ => ⟨S1x1x1x32, .f32⟩
  | .hbm, ⟨46, _⟩ => ⟨S8x1x16x32, .f32⟩
  | .hbm, ⟨47, _⟩ => ⟨S8x1x16x32, .f32⟩
  | .hbm, ⟨48, _⟩ => ⟨S8x1x16x32, .f32⟩
  | .hbm, ⟨49, _⟩ => ⟨S8x1x16x64, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S4096, .f32⟩
  | .hbm, ⟨61, _⟩ => ⟨S4096x1, .f32⟩
  | .hbm, ⟨62, _⟩ => ⟨S1x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S8x4096x32, .f32⟩
  | .hbm, ⟨69, _⟩ => ⟨S8x4096x32, .f32⟩
  | .hbm, ⟨70, _⟩ => ⟨S1x4096x32, .f32⟩
  | .hbm, ⟨71, _⟩ => ⟨S8x4096x32, .f32⟩
  | .hbm, ⟨72, _⟩ => ⟨S8x4096x32, .f32⟩
  | .hbm, ⟨73, _⟩ => ⟨S1x4096x32, .f32⟩
  | .hbm, ⟨74, _⟩ => ⟨S8x4096x32, .f32⟩
  | .hbm, ⟨75, _⟩ => ⟨S8x4096x32, .f32⟩
  | .hbm, ⟨76, _⟩ => ⟨S8x4096x32, .f32⟩
  | .hbm, ⟨77, _⟩ => ⟨S1x4096x32, .f32⟩
  | .hbm, ⟨78, _⟩ => ⟨S8x4096x32, .f32⟩
  | .hbm, ⟨79, _⟩ => ⟨S8x4096x32, .f32⟩
  | .hbm, ⟨80, _⟩ => ⟨S1x4096x32, .f32⟩
  | .hbm, ⟨81, _⟩ => ⟨S8x4096x32, .f32⟩
  | .hbm, ⟨82, _⟩ => ⟨S8x4096x32, .f32⟩
  | .hbm, ⟨83, _⟩ => ⟨S8x4096x32, .f32⟩
  | .hbm, ⟨84, _⟩ => ⟨S8x4096x64, .f32⟩
  | .hbm, ⟨85, _⟩ => ⟨S8x4096x4096, .f32⟩
  | .hbm, ⟨86, _⟩ => ⟨S8x4096x16x256, .f32⟩
  | .hbm, ⟨87, _⟩ => ⟨S8x4096x16x128, .f32⟩
  | .hbm, ⟨88, _⟩ => ⟨S8x4096x16x128, .f32⟩
  | .hbm, ⟨89, _⟩ => ⟨S8x4096x1x64, .f32⟩
  | .hbm, ⟨90, _⟩ => ⟨S8x4096x16x64, .f32⟩
  | .hbm, ⟨91, _⟩ => ⟨S8x4096x16x192, .f32⟩
  | .hbm, ⟨92, _⟩ => ⟨S8x1x16x192, .f32⟩
  | .hbm, ⟨93, _⟩ => ⟨S8x16x1x4096, .f32⟩
  | .hbm, ⟨94, _⟩ => ⟨S_, .f32⟩
  | .hbm, ⟨95, _⟩ => ⟨S_, .f32⟩
  | .hbm, ⟨96, _⟩ => ⟨S8x16x1x4096, .f32⟩
  | .hbm, ⟨97, _⟩ => ⟨S8x16x1x4096, .f32⟩
  | .hbm, ⟨98, _⟩ => ⟨S1x4096, .i32⟩
  | .hbm, ⟨99, _⟩ => ⟨S1x1, .i32⟩
  | .hbm, ⟨100, _⟩ => ⟨S1x4096, .i32⟩
  | .hbm, ⟨101, _⟩ => ⟨S1x4096, .i1⟩
  | .hbm, ⟨102, _⟩ => ⟨S1x1x1x4096, .i1⟩
  | .hbm, ⟨103, _⟩ => ⟨S_, .f32⟩
  | .hbm, ⟨104, _⟩ => ⟨S8x16x1x4096, .i1⟩
  | .hbm, ⟨105, _⟩ => ⟨S8x16x1x4096, .f32⟩
  | .hbm, ⟨106, _⟩ => ⟨S8x16x1x4096, .f32⟩
  | .hbm, ⟨107, _⟩ => ⟨S_, .f32⟩
  | .hbm, ⟨108, _⟩ => ⟨S8x16x1, .f32⟩
  | .hbm, ⟨109, _⟩ => ⟨S_, .f32⟩
  | .hbm, ⟨110, _⟩ => ⟨S8x16x1, .f32⟩
  | .hbm, ⟨111, _⟩ => ⟨S8x16x1, .f32⟩
  | .hbm, ⟨112, _⟩ => ⟨S8x16x1x1, .f32⟩
  | .hbm, ⟨113, _⟩ => ⟨S8x16x1x4096, .f32⟩
  | .hbm, ⟨114, _⟩ => ⟨S8x16x1x4096, .f32⟩
  | .hbm, ⟨115, _⟩ => ⟨S8x16x1x4096, .f32⟩
  | .hbm, ⟨116, _⟩ => ⟨S_, .f32⟩
  | .hbm, ⟨117, _⟩ => ⟨S8x16x1, .f32⟩
  | .hbm, ⟨118, _⟩ => ⟨S8x16x1x1, .f32⟩
  | .hbm, ⟨119, _⟩ => ⟨S8x16x1x4096, .f32⟩
  | .hbm, ⟨120, _⟩ => ⟨S8x16x1x4096, .f32⟩
  | .hbm, ⟨121, _⟩ => ⟨S8x16x128x1, .f32⟩
  | .hbm, ⟨122, _⟩ => ⟨S8x1x16x128, .f32⟩
  | .hbm, ⟨123, _⟩ => ⟨S8x1x2048, .f32⟩
  | .hbm, ⟨124, _⟩ => ⟨S8x1x2048, .f32⟩
  | _, _ => ⟨S8x1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_5 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_6 : Ref sig .tc := ⟨.hbm, 103, rfl⟩
abbrev main_call0_v0 : Ref sig .tc := ⟨.hbm, 104, rfl⟩
abbrev main_call0_v1 : Ref sig .tc := ⟨.hbm, 105, rfl⟩
abbrev main_v89 : Ref sig .tc := ⟨.hbm, 106, rfl⟩
abbrev main_cst_7 : Ref sig .tc := ⟨.hbm, 107, rfl⟩
abbrev main_v90 : Ref sig .tc := ⟨.hbm, 108, rfl⟩
abbrev main_cst_8 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_9 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩

abbrev nD : Nat := 1
abbrev τ : Topo := Topo.v7x

variable {F : FTy → Type} [FloatOps F]
-- ==== Proof.KI.Names.lean ====
/-
  The names the hand-written run of the kernel's body is stated over: the buffers it holds, the two transfer
  semaphores, and the conditions of its three branches at a grid point.
-/
module

public import proofs.«01_k».proof.Proof.Gen.KernelIdeal.Frame
public import proofs.«01_k».proof.Proof.Gen.KernelIdeal.Skeleton
public import Idealize.ShloMosaic.Lib.MixedBatch

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

/-- The scratch buffers as the body's memrefs: the weights' buffer, the absorbed queries, the rotary queries, the
    rotary table, the latent outputs. -/
abbrev mW : Memref sig .tc .vmem S1536x3072 .f32 := Memref.whole cc0_scratch0
abbrev mQA : Memref sig .tc .vmem S8x16x512 .f32 := Memref.whole cc0_scratch1
abbrev mQP : Memref sig .tc .vmem S8x16x64 .f32 := Memref.whole cc0_scratch2
abbrev mT : Memref sig .tc .vmem S4096x64 .bf16 := Memref.whole cc0_scratch3
abbrev mO : Memref sig .tc .vmem S8x16x512 .f32 := Memref.whole cc0_scratch4
/-- The two weights left in HBM: the query up-projection and the output projection. -/
abbrev hQ : Memref sig .tc .hbm S1536x3072 .f32 := Memref.whole main_arg3
abbrev hO : Memref sig .tc .hbm S2048x2048 .f32 := Memref.whole main_arg5

/-- The branch conditions of the body at grid coordinates `i`, as printed: the first point, the second, the last. -/
abbrev cond1 (i : grid0.Coords) : BitVec 1 :=
  Scalar.cmpi .ne (Scalar.extui (Scalar.cmpi .eq (BitVec.ofNat 32 (i 0).val) 0#32) : BitVec 32) 0#32
abbrev cond2 (i : grid0.Coords) : BitVec 1 :=
  Scalar.cmpi .ne (Scalar.extui (Scalar.cmpi .eq (BitVec.ofNat 32 (i 0).val) 1#32) : BitVec 32) 0#32

/-- The contents of a memref's buffer on core `c`. -/
abbrev Cont (c : Dev nD) {sp : Space} {S : Shape} {e : EltTy} (M : Memref sig .tc sp S e) : Type :=
  Buf (Elt F) (M.view.loc (c : Thread nD τ))

/-- One batch's row of the latent outputs: the attention of the batch's keys (the window contents `f5`, `f6`) under the
    rotary table `gT` and the batch's row, at grid coordinates `i`, of the queries `gQA`, `gQP`. -/
def rowOf (c : Dev nD) (i : grid0.Coords) (arg5 : Memref sig .tc .vmem S1x4096x512 .f32) (arg6 : Memref sig .tc .vmem S1x4096x64 .f32)
    (f5 : Cont (F := F) c arg5) (f6 : Cont (F := F) c arg6) (gT : Cont (F := F) c mT) (gQA : Cont (F := F) c mQA)
    (gQP : Cont (F := F) c mQP) : FVec F S1x16x512 .f32 :=
  k0_pay1 (k0_pay114 (View.readAt (Elt F) arg5.view (Rect.unit (s := S1x4096x512) ![0, 0, 0] S1x4096x512.size inb_S1x4096x512_S1x4096x512_0_0_0).toLoadRect f5))
    (k0_pay115 (View.readAt (Elt F) arg5.view (Rect.unit (s := S1x4096x512) ![0, 0, 0] S1x4096x512.size inb_S1x4096x512_S1x4096x512_0_0_0).toLoadRect f5)
      (View.readAt (Elt F) arg6.view (Rect.unit (s := S1x4096x64) ![0, 0, 0] S1x4096x64.size inb_S1x4096x64_S1x4096x64_0_0_0).toLoadRect f6)
      (View.readAt (Elt F) mT.view (Rect.unit (s := S4096x64) ![0, 0] S4096x32.size inb_S4096x64_S4096x32_0_0).toLoadRect gT)
      (View.readAt (Elt F) mT.view (Rect.unit (s := S4096x64) ![0, 32] S4096x32.size inb_S4096x64_S4096x32_0_32).toLoadRect gT)
      (View.readAt (Elt F) mQA.view (Rect.unit (s := S8x16x512) (k0_off1 i) S1x16x512.size (k0_off1_inb i)).toLoadRect gQA)
      (View.readAt (Elt F) mQP.view (Rect.unit (s := S8x16x64) (k0_off2 i) S1x16x64.size (k0_off2_inb i)).toLoadRect gQP))

/-- The latent outputs with that row stored. -/
def putRow (c : Dev nD) (i : grid0.Coords) (d : Cont (F := F) c mO) (r : FVec F S1x16x512 .f32) : Cont (F := F) c mO :=
  mO.view.writes (Elt F) d [⟨Rect.unit (s := S8x16x512) (k0_off1 i) S1x16x512.size (k0_off1_inb i), r⟩]

end Cert.KernelIdeal.Hand

end
-- ==== Proof.KI.Run0.lean ====
/-
  The body at the first grid point: the query projection's weights are copied in, the rotary table and the queries are
  stored, and the first batch's attention is stored in its row of the latent outputs.
-/
module

public import proofs.«01_k».proof.Proof.KI.Names

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

/-- The body's run at a point where the first branch is taken and the others are not. It leaves the absorbed queries,
    the rotary queries and the rotary table at lists of pieces that depend on the windows' contents alone, the weights'
    buffer at anything, and stores the batch's row of the latent outputs. -/
def run0 (c : Dev nD) (i : grid0.Coords)
    (arg1 : Memref sig .tc .vmem S8x1536 .f32) (harg1 : arg1.IsWhole) (arg3 : Memref sig .tc .vmem S512x4096 .f32) (harg3 : arg3.IsWhole)
    (arg5 : Memref sig .tc .vmem S1x4096x512 .f32) (harg5 : arg5.IsWhole) (arg6 : Memref sig .tc .vmem S1x4096x64 .f32) (harg6 : arg6.IsWhole)
    (f1 : Cont (F := F) c arg1) (f3 : Cont (F := F) c arg3) (fq : Cont (F := F) c hQ) :
    { L : List (View.Piece (Elt F) S8x16x512 .f32) × List (View.Piece (Elt F) S8x16x64 .f32) × List (View.Piece (Elt F) S4096x64 .bf16) //
      ∀ (arg7 : Memref sig .tc .vmem S8x1x2048 .f32) (harg7 : arg7.IsWhole)
        (hc1 : cond1 i = 1#1) (hc2 : ¬ cond2 i = 1#1) (hc3 : ¬ k0_cond3 i = 1#1)
        (f5 : Cont (F := F) c arg5) (f6 : Cont (F := F) c arg6) (W : Waits sig Unit) (K : PUnit → sProp 𝕄)
        (d8 : Cont (F := F) c mW) (d9 : Cont (F := F) c mQA) (d10 : Cont (F := F) c mQP) (d11 : Cont (F := F) c mT)
        (d12 : Cont (F := F) c mO),
        iprop((arg1.view.loc (c : Thread nD τ) ↦[arg1.view.set]{fullShare} f1) ∗ (arg3.view.loc (c : Thread nD τ) ↦[arg3.view.set]{fullShare} f3)
          ∗ (arg5.view.loc (c : Thread nD τ) ↦[arg5.view.set]{fullShare} f5) ∗ (arg6.view.loc (c : Thread nD τ) ↦[arg6.view.set]{fullShare} f6)
          ∗ (hQ.view.loc (c : Thread nD τ) ↦{fullShare} fq)
          ∗ (mW.view.loc (c : Thread nD τ) ↦{fullShare} d8) ∗ (mQA.view.loc (c : Thread nD τ) ↦{fullShare} d9)
          ∗ (mQP.view.loc (c : Thread nD τ) ↦{fullShare} d10) ∗ (mT.view.loc (c : Thread nD τ) ↦{fullShare} d11)
          ∗ (mO.view.loc (c : Thread nD τ) ↦{fullShare} d12)
          ∗ semVal ((c : Thread nD τ), SemLoc.dma 7) 0 ∗ owes (c : Thread nD τ) 0 W
          ∗ (iprop((arg1.view.loc (c : Thread nD τ) ↦[arg1.view.set]{fullShare} f1) ∗ (arg3.view.loc (c : Thread nD τ) ↦[arg3.view.set]{fullShare} f3)
              ∗ (arg5.view.loc (c : Thread nD τ) ↦[arg5.view.set]{fullShare} f5) ∗ (arg6.view.loc (c : Thread nD τ) ↦[arg6.view.set]{fullShare} f6)
              ∗ (hQ.view.loc (c : Thread nD τ) ↦{fullShare} fq)
              ∗ (∃ d, mW.view.loc (c : Thread nD τ) ↦{fullShare} d)
              ∗ (mQA.view.loc (c : Thread nD τ) ↦{fullShare} mQA.view.writes (Elt F) mQA.view.junk L.1)
              ∗ (mQP.view.loc (c : Thread nD τ) ↦{fullShare} mQP.view.writes (Elt F) mQP.view.junk L.2.1)
              ∗ (mT.view.loc (c : Thread nD τ) ↦{fullShare} mT.view.writes (Elt F) mT.view.junk L.2.2)
              ∗ (mO.view.loc (c : Thread nD τ) ↦{fullShare} putRow c i d12 (rowOf c i arg5 arg6 f5 f6
                  (mT.view.writes (Elt F) mT.view.junk L.2.2) (mQA.view.writes (Elt F) mQA.view.junk L.1) (mQP.view.writes (Elt F) mQP.view.junk L.2.1)))
              ∗ semVal ((c : Thread nD τ), SemLoc.dma 7) 0 ∗ (∃ W, owes (c : Thread nD τ) 0 W)) -∗ K ⟨⟩))
        ⊢ wp frame (wpE (defs₀ (F := F)) Variants.none c none) Set.univ
            (cc0__mla_kernel i arg1 harg1 hQ (Memref.isWhole_whole _) arg3 harg3 hO (Memref.isWhole_whole _) arg5 harg5 arg6 harg6 arg7 harg7
              mW (Memref.isWhole_whole _) mQA (Memref.isWhole_whole _) mQP (Memref.isWhole_whole _) mT (Memref.isWhole_whole _)
              mO (Memref.isWhole_whole _) cc0_scratch5 cc0_scratch6) K } := by
  refine ⟨⟨?_, ?_, ?_⟩, fun arg7 harg7 hc1 hc2 hc3 f5 f6 W K d8 d9 d10 d11 d12 => ?run⟩
  case run =>
    rw [cc0__mla_kernel_eq_skeleton]; unfold cc0__mla_kernel_skel
    iintro ⟨H1, H3, H5, H6, HQ, HW, HQA, HQP, HT, HO, Hs, HWt, Hk⟩
    sl_exec_parts! (disch := first | sl_exact hc1 | sl_exact hc2 | sl_exact hc3)
    sl_step
    iapply Hk
    isplitl [H1]; · iexact H1
    isplitl [H3]; · iexact H3
    isplitl [H5]; · iexact H5
    isplitl [H6]; · iexact H6
    isplitl [HQ]; · iexact HQ
    isplitl [HW]; · iexists _; iexact HW
    isplitl [HQA]; · iexact HQA
    isplitl [HQP]; · iexact HQP
    isplitl [HT]; · iexact HT
    isplitl [HO]; · iexact HO
    isplitl [Hs]; · iexact Hs
    iexists _; iexact HWt

end Cert.KernelIdeal.Hand

end
-- ==== Proof.KI.Weights.lean ====
/-
  The five copies that bring the output projection's weights into the weights' buffer: their slices, what each delivers,
  and the two buffers cut into the slices and joined back.
-/
module

public import proofs.«01_k».proof.Proof.KI.Names
public import Idealize.ShloMosaic.Lib.Ring.WriteBehind

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

/-- The slices of the weights' buffer the copies fill, and the slices of the weights in HBM they read. -/
abbrev wS0 : Memref sig .tc .vmem S512x2048 .f32 := mW.slice (Rect.unit (s := S1536x3072) ![0, 0] S512x2048.size inb_S1536x3072_S512x2048_0_0) (fun _ => rfl)
abbrev wS1 : Memref sig .tc .vmem S512x2048 .f32 := mW.slice (Rect.unit (s := S1536x3072) ![512, 0] S512x2048.size inb_S1536x3072_S512x2048_512_0) (fun _ => rfl)
abbrev wS2 : Memref sig .tc .vmem S512x2048 .f32 := mW.slice (Rect.unit (s := S1536x3072) ![1024, 0] S512x2048.size inb_S1536x3072_S512x2048_1024_0) (fun _ => rfl)
abbrev wS3 : Memref sig .tc .vmem S512x1024 .f32 := mW.slice (Rect.unit (s := S1536x3072) ![0, 2048] S512x1024.size inb_S1536x3072_S512x1024_0_2048) (fun _ => rfl)
abbrev wS4 : Memref sig .tc .vmem S512x1024 .f32 := mW.slice (Rect.unit (s := S1536x3072) ![512, 2048] S512x1024.size inb_S1536x3072_S512x1024_512_2048) (fun _ => rfl)
abbrev oS0 : Memref sig .tc .hbm S512x2048 .f32 := hO.slice (Rect.unit (s := S2048x2048) ![0, 0] S512x2048.size inb_S2048x2048_S512x2048_0_0) (fun _ => rfl)
abbrev oS1 : Memref sig .tc .hbm S512x2048 .f32 := hO.slice (Rect.unit (s := S2048x2048) ![512, 0] S512x2048.size inb_S2048x2048_S512x2048_512_0) (fun _ => rfl)
abbrev oS2 : Memref sig .tc .hbm S512x2048 .f32 := hO.slice (Rect.unit (s := S2048x2048) ![1024, 0] S512x2048.size inb_S2048x2048_S512x2048_1024_0) (fun _ => rfl)
abbrev oS3 : Memref sig .tc .hbm S512x1024 .f32 := hO.slice (Rect.unit (s := S2048x2048) ![1536, 0] S512x1024.size inb_S2048x2048_S512x1024_1536_0) (fun _ => rfl)
abbrev oS4 : Memref sig .tc .hbm S512x1024 .f32 := hO.slice (Rect.unit (s := S2048x2048) ![1536, 1024] S512x1024.size inb_S2048x2048_S512x1024_1536_1024) (fun _ => rfl)

/-- A slice held at contents `f` of its buffer. -/
abbrev held (c : Dev nD) {sp : Space} {S : Shape} {e : EltTy} (M : Memref sig .tc sp S e) (f : Cont (F := F) c M) : sProp 𝕄 :=
  M.view.loc (c : Thread nD τ) ↦[M.view.set]{fullShare} f

/-- A copy's delivery: its destination slice holding what the source slice read, and the source slice back. -/
abbrev dlv (c : Dev nD) {S : Shape} (Md : Memref sig .tc .vmem S .f32) (Ms : Memref sig .tc .hbm S .f32)
    (fd : Cont (F := F) c Md) (fs : Cont (F := F) c Ms) : sProp 𝕄 :=
  iprop(held c Md (Md.view.writes (Elt F) fd [⟨Rect.whole _, ReadAs.same.apply (Ms.view.read (Elt F) fs)⟩]) ∗ held c Ms fs)

/-- The five deliveries in the order of issue, over the contents `d` of the weights' buffer and `f` of the weights. -/
def delivO (c : Dev nD) (d : Cont (F := F) c mW) (f : Cont (F := F) c hO) : Fin 5 → sProp 𝕄
  | 0 => dlv c wS0 oS0 d f
  | 1 => dlv c wS1 oS1 d f
  | 2 => dlv c wS2 oS2 d f
  | 3 => dlv c wS3 oS3 d f
  | 4 => dlv c wS4 oS4 d f

instance delivO_storable (c : Dev nD) (d : Cont (F := F) c mW) (f : Cont (F := F) c hO) (t : Fin 5) :
    Storable (upEmb : UEmb _ 𝕄) (delivO c d f t) := by
  fin_cases t <;> simp only [delivO] <;> infer_instance

/-- The copies' amounts. -/
abbrev amtO : Fin 5 → ℕ := ![131072, 131072, 131072, 65536, 65536]

/-- The five copies in flight. -/
abbrev flight (c : Dev nD) (d : Cont (F := F) c mW) (f : Cont (F := F) c hO) : sProp 𝕄 :=
  Transfers.MixedBatch (countersEmb (U := Pipeline.UD sig nD τ)) (c : Thread nD τ) (SemLoc.dma 8) () amtO (delivO c d f) 5 0

/-! ## Cutting the two buffers -/

/-- The slices' rectangles in `mW`, and their elements. -/
def wR : Fin 5 → Rect S1536x3072
  | 0 => Rect.unit (s := S1536x3072) ![0, 0] S512x2048.size inb_S1536x3072_S512x2048_0_0
  | 1 => Rect.unit (s := S1536x3072) ![512, 0] S512x2048.size inb_S1536x3072_S512x2048_512_0
  | 2 => Rect.unit (s := S1536x3072) ![1024, 0] S512x2048.size inb_S1536x3072_S512x2048_1024_0
  | 3 => Rect.unit (s := S1536x3072) ![0, 2048] S512x1024.size inb_S1536x3072_S512x1024_0_2048
  | 4 => Rect.unit (s := S1536x3072) ![512, 2048] S512x1024.size inb_S1536x3072_S512x1024_512_2048
abbrev wJ (c : Dev nD) (k : Fin 5) : Finset (Idx (mW.view.loc (c : Thread nD τ))) := (mW.view.slice (wR k)).set
theorem wR_disj : ∀ k k', k ≠ k' → LoadRect.disj (wR k) (wR k').toLoadRect = true := by decide +kernel
theorem wJ_disj (c : Dev nD) (k k' : Fin 5) (h : k ≠ k') : Disjoint (wJ c k) (wJ c k') :=
  View.disjoint_slice_of_disj mW.view _ _ (wR_disj k k' h)

/-- What `mW` holds outside the slices. -/
abbrev wRest (c : Dev nD) (f : Cont (F := F) c mW) : sProp 𝕄 :=
  mW.view.loc (c : Thread nD τ) ↦[Finset.univ \ Finset.univ.biUnion (wJ c)]{fullShare} f

/-- `mW` whole is its five slices and the rest; -/
theorem w_split (c : Dev nD) (f : Cont (F := F) c mW) :
    (mW.view.loc (c : Thread nD τ) ↦{fullShare} f : sProp 𝕄)
      ⊢ iprop((held c wS0 f ∗ held c wS1 f ∗ held c wS2 f ∗ held c wS3 f ∗ held c wS4 f) ∗ wRest c f) := by
  refine (pointsTo_split_subset (Finset.subset_univ (Finset.univ.biUnion (wJ c)))).1.trans ?_
  refine sep_mono_left ?_
  rw [pointsTo_biUnion Finset.univ (wJ c) (fun k _ k' _ h => wJ_disj c k k' h),
    BI.bigSep_eq_bigSepL_of_eq [0, 1, 2, 3, 4] (by decide) (by decide)]
  exact .rfl

/-- and the five slices at `f`, with the rest at `f`, join back. -/
theorem w_join (c : Dev nD) (f : Cont (F := F) c mW) :
    iprop((held c wS0 f ∗ held c wS1 f ∗ held c wS2 f ∗ held c wS3 f ∗ held c wS4 f) ∗ wRest c f)
      ⊢ (mW.view.loc (c : Thread nD τ) ↦{fullShare} f : sProp 𝕄) := by
  refine .trans ?_ (pointsTo_split_subset (Finset.subset_univ (Finset.univ.biUnion (wJ c)))).2
  refine sep_mono_left ?_
  rw [pointsTo_biUnion Finset.univ (wJ c) (fun k _ k' _ h => wJ_disj c k k' h),
    BI.bigSep_eq_bigSepL_of_eq [0, 1, 2, 3, 4] (by decide) (by decide)]
  exact .rfl

/-- The slices' rectangles in `hO`, and their elements. -/
def oR : Fin 5 → Rect S2048x2048
  | 0 => Rect.unit (s := S2048x2048) ![0, 0] S512x2048.size inb_S2048x2048_S512x2048_0_0
  | 1 => Rect.unit (s := S2048x2048) ![512, 0] S512x2048.size inb_S2048x2048_S512x2048_512_0
  | 2 => Rect.unit (s := S2048x2048) ![1024, 0] S512x2048.size inb_S2048x2048_S512x2048_1024_0
  | 3 => Rect.unit (s := S2048x2048) ![1536, 0] S512x1024.size inb_S2048x2048_S512x1024_1536_0
  | 4 => Rect.unit (s := S2048x2048) ![1536, 1024] S512x1024.size inb_S2048x2048_S512x1024_1536_1024
abbrev oJ (c : Dev nD) (k : Fin 5) : Finset (Idx (hO.view.loc (c : Thread nD τ))) := (hO.view.slice (oR k)).set
theorem oR_disj : ∀ k k', k ≠ k' → LoadRect.disj (oR k) (oR k').toLoadRect = true := by decide +kernel
theorem oJ_disj (c : Dev nD) (k k' : Fin 5) (h : k ≠ k') : Disjoint (oJ c k) (oJ c k') :=
  View.disjoint_slice_of_disj hO.view _ _ (oR_disj k k' h)

/-- What `hO` holds outside the slices. -/
abbrev oRest (c : Dev nD) (f : Cont (F := F) c hO) : sProp 𝕄 :=
  hO.view.loc (c : Thread nD τ) ↦[Finset.univ \ Finset.univ.biUnion (oJ c)]{fullShare} f

/-- `hO` whole is its five slices and the rest; -/
theorem o_split (c : Dev nD) (f : Cont (F := F) c hO) :
    (hO.view.loc (c : Thread nD τ) ↦{fullShare} f : sProp 𝕄)
      ⊢ iprop((held c oS0 f ∗ held c oS1 f ∗ held c oS2 f ∗ held c oS3 f ∗ held c oS4 f) ∗ oRest c f) := by
  refine (pointsTo_split_subset (Finset.subset_univ (Finset.univ.biUnion (oJ c)))).1.trans ?_
  refine sep_mono_left ?_
  rw [pointsTo_biUnion Finset.univ (oJ c) (fun k _ k' _ h => oJ_disj c k k' h),
    BI.bigSep_eq_bigSepL_of_eq [0, 1, 2, 3, 4] (by decide) (by decide)]
  exact .rfl

/-- and the five slices at `f`, with the rest at `f`, join back. -/
theorem o_join (c : Dev nD) (f : Cont (F := F) c hO) :
    iprop((held c oS0 f ∗ held c oS1 f ∗ held c oS2 f ∗ held c oS3 f ∗ held c oS4 f) ∗ oRest c f)
      ⊢ (hO.view.loc (c : Thread nD τ) ↦{fullShare} f : sProp 𝕄) := by
  refine .trans ?_ (pointsTo_split_subset (Finset.subset_univ (Finset.univ.biUnion (oJ c)))).2
  refine sep_mono_left ?_
  rw [pointsTo_biUnion Finset.univ (oJ c) (fun k _ k' _ h => oJ_disj c k k' h),
    BI.bigSep_eq_bigSepL_of_eq [0, 1, 2, 3, 4] (by decide) (by decide)]
  exact .rfl

/-- The slices of the weights' buffer at contents of their own, with the rest, join to the buffer at some contents. -/
theorem w_join_some (c : Dev nD) (f0 f1 f2 f3 f4 f : Cont (F := F) c mW) :
    iprop((held c wS0 f0 ∗ held c wS1 f1 ∗ held c wS2 f2 ∗ held c wS3 f3 ∗ held c wS4 f4) ∗ wRest c f)
      ⊢ (iprop(∃ g, mW.view.loc (c : Thread nD τ) ↦{fullShare} g) : sProp 𝕄) := by
  have h := Ring.pieces_join_spare (wJ c) (wJ_disj c) (q := fullShare)
    (fun k g => (mW.view.loc (c : Thread nD τ) ↦[wJ c k]{fullShare} g : sProp 𝕄)) fun _ _ => rfl
  rw [BI.bigSep_eq_bigSepL_of_eq [0, 1, 2, 3, 4] (by decide) (by decide)] at h
  refine .trans (show _ ⊢ iprop(((∃ g, held c wS0 g) ∗ (∃ g, held c wS1 g) ∗ (∃ g, held c wS2 g) ∗ (∃ g, held c wS3 g)
    ∗ (∃ g, held c wS4 g)) ∗ ∃ g, wRest c g) from ?_) h
  iintro ⟨⟨H0, H1, H2, H3, H4⟩, HR⟩
  isplitr [HR]
  · isplitl [H0]; · iexists f0; iexact H0
    isplitl [H1]; · iexists f1; iexact H1
    isplitl [H2]; · iexists f2; iexact H2
    isplitl [H3]; · iexists f3; iexact H3
    iexists f4; iexact H4
  iexists f; iexact HR

end Cert.KernelIdeal.Hand

end
-- ==== Proof.KI.RunMid.lean ====
/-
  The body at a point that takes no branch: the batch's attention is stored in its row of the latent outputs.
-/
module

public import proofs.«01_k».proof.Proof.KI.Weights

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 2000000 in
/-- The body's run at a point where no branch is taken: the tables and the queries are read, the batch's row of the latent
    outputs is stored. -/
theorem runMid (c : Dev nD) (i : grid0.Coords)
    (arg1 : Memref sig .tc .vmem S8x1536 .f32) (harg1 : arg1.IsWhole) (arg3 : Memref sig .tc .vmem S512x4096 .f32) (harg3 : arg3.IsWhole)
    (arg5 : Memref sig .tc .vmem S1x4096x512 .f32) (harg5 : arg5.IsWhole) (arg6 : Memref sig .tc .vmem S1x4096x64 .f32) (harg6 : arg6.IsWhole)
    (arg7 : Memref sig .tc .vmem S8x1x2048 .f32) (harg7 : arg7.IsWhole)
    (hc1 : ¬ cond1 i = 1#1) (hc2 : ¬ cond2 i = 1#1) (hc3 : ¬ k0_cond3 i = 1#1)
    (f5 : Cont (F := F) c arg5) (f6 : Cont (F := F) c arg6) (gQA : Cont (F := F) c mQA) (gQP : Cont (F := F) c mQP)
    (gT : Cont (F := F) c mT) (d12 : Cont (F := F) c mO) (K : PUnit → sProp 𝕄) :
    iprop((arg5.view.loc (c : Thread nD τ) ↦[arg5.view.set]{fullShare} f5)
        ∗ (arg6.view.loc (c : Thread nD τ) ↦[arg6.view.set]{fullShare} f6)
        ∗ (mQA.view.loc (c : Thread nD τ) ↦{fullShare} gQA)
        ∗ (mQP.view.loc (c : Thread nD τ) ↦{fullShare} gQP)
        ∗ (mT.view.loc (c : Thread nD τ) ↦{fullShare} gT)
        ∗ (mO.view.loc (c : Thread nD τ) ↦{fullShare} d12)
        ∗ (iprop((arg5.view.loc (c : Thread nD τ) ↦[arg5.view.set]{fullShare} f5)
        ∗ (arg6.view.loc (c : Thread nD τ) ↦[arg6.view.set]{fullShare} f6)
        ∗ (mQA.view.loc (c : Thread nD τ) ↦{fullShare} gQA)
        ∗ (mQP.view.loc (c : Thread nD τ) ↦{fullShare} gQP)
        ∗ (mT.view.loc (c : Thread nD τ) ↦{fullShare} gT)
        ∗ (mO.view.loc (c : Thread nD τ) ↦{fullShare} putRow c i d12 (rowOf c i arg5 arg6 f5 f6 gT gQA gQP))) -∗ K ⟨⟩))
      ⊢ wp frame (wpE (defs₀ (F := F)) Variants.none c none) Set.univ
          (cc0__mla_kernel i arg1 harg1 hQ (Memref.isWhole_whole _) arg3 harg3 hO (Memref.isWhole_whole _) arg5 harg5 arg6 harg6 arg7 harg7
            mW (Memref.isWhole_whole _) mQA (Memref.isWhole_whole _) mQP (Memref.isWhole_whole _) mT (Memref.isWhole_whole _)
            mO (Memref.isWhole_whole _) cc0_scratch5 cc0_scratch6) K := by
  rw [cc0__mla_kernel_eq_skeleton]; unfold cc0__mla_kernel_skel
  iintro ⟨H5, H6, HQA, HQP, HT, HO, Hk⟩
  sl_exec_parts (disch := first | sl_exact hc1 | sl_exact hc2 | sl_exact hc3)
  sl_step
  iapply Hk
  isplitl [H5]; · iexact H5
  isplitl [H6]; · iexact H6
  isplitl [HQA]; · iexact HQA
  isplitl [HQP]; · iexact HQP
  isplitl [HT]; · iexact HT
  iexact HO

end Cert.KernelIdeal.Hand

end
-- ==== Proof.KI.Run1.lean ====
/-
  The body at the second grid point: the output projection's weights set out towards the weights' buffer in five copies,
  and the batch's attention is stored in its row of the latent outputs.
-/
module

public import proofs.«01_k».proof.Proof.KI.Weights

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 2000000 in
/-- The body's run at a point where the second branch alone is taken: from the weights' buffer and the weights whole and
    the copies' semaphore at zero, the five copies are left in flight, with what no copy touches. -/
theorem run1 (c : Dev nD) (i : grid0.Coords)
    (arg1 : Memref sig .tc .vmem S8x1536 .f32) (harg1 : arg1.IsWhole) (arg3 : Memref sig .tc .vmem S512x4096 .f32) (harg3 : arg3.IsWhole)
    (arg5 : Memref sig .tc .vmem S1x4096x512 .f32) (harg5 : arg5.IsWhole) (arg6 : Memref sig .tc .vmem S1x4096x64 .f32) (harg6 : arg6.IsWhole)
    (arg7 : Memref sig .tc .vmem S8x1x2048 .f32) (harg7 : arg7.IsWhole)
    (hc1 : ¬ cond1 i = 1#1) (hc2 : cond2 i = 1#1) (hc3 : ¬ k0_cond3 i = 1#1)
    (f5 : Cont (F := F) c arg5) (f6 : Cont (F := F) c arg6) (gQA : Cont (F := F) c mQA) (gQP : Cont (F := F) c mQP)
    (gT : Cont (F := F) c mT) (d12 : Cont (F := F) c mO) (K : PUnit → sProp 𝕄) (W : Waits sig Unit)
    (d8 : Cont (F := F) c mW) (fo : Cont (F := F) c hO) :
    iprop((arg5.view.loc (c : Thread nD τ) ↦[arg5.view.set]{fullShare} f5)
        ∗ (arg6.view.loc (c : Thread nD τ) ↦[arg6.view.set]{fullShare} f6)
        ∗ (mQA.view.loc (c : Thread nD τ) ↦{fullShare} gQA)
        ∗ (mQP.view.loc (c : Thread nD τ) ↦{fullShare} gQP)
        ∗ (mT.view.loc (c : Thread nD τ) ↦{fullShare} gT)
        ∗ (mO.view.loc (c : Thread nD τ) ↦{fullShare} d12)
        ∗ (mW.view.loc (c : Thread nD τ) ↦{fullShare} d8)
        ∗ (hO.view.loc (c : Thread nD τ) ↦{fullShare} fo)
        ∗ semVal ((c : Thread nD τ), SemLoc.dma 8) 0
        ∗ owes (c : Thread nD τ) 0 W
        ∗ (iprop((arg5.view.loc (c : Thread nD τ) ↦[arg5.view.set]{fullShare} f5)
        ∗ (arg6.view.loc (c : Thread nD τ) ↦[arg6.view.set]{fullShare} f6)
        ∗ (mQA.view.loc (c : Thread nD τ) ↦{fullShare} gQA)
        ∗ (mQP.view.loc (c : Thread nD τ) ↦{fullShare} gQP)
        ∗ (mT.view.loc (c : Thread nD τ) ↦{fullShare} gT)
        ∗ (mO.view.loc (c : Thread nD τ) ↦{fullShare} putRow c i d12 (rowOf c i arg5 arg6 f5 f6 gT gQA gQP))
        ∗ flight c d8 fo
        ∗ wRest c d8
        ∗ oRest c fo
        ∗ (∃ W, owes (c : Thread nD τ) 0 W)) -∗ K ⟨⟩))
      ⊢ wp frame (wpE (defs₀ (F := F)) Variants.none c none) Set.univ
          (cc0__mla_kernel i arg1 harg1 hQ (Memref.isWhole_whole _) arg3 harg3 hO (Memref.isWhole_whole _) arg5 harg5 arg6 harg6 arg7 harg7
            mW (Memref.isWhole_whole _) mQA (Memref.isWhole_whole _) mQP (Memref.isWhole_whole _) mT (Memref.isWhole_whole _)
            mO (Memref.isWhole_whole _) cc0_scratch5 cc0_scratch6) K := by
  rw [cc0__mla_kernel_eq_skeleton]; unfold cc0__mla_kernel_skel
  iintro ⟨H5, H6, HQA, HQP, HT, HO, HW, Ho, Hs, HWt, Hk⟩
  ihave HW' := (w_split c d8) $$ HW
  icases HW' with ⟨⟨HW0, HW1, HW2, HW3, HW4⟩, HWR⟩
  ihave Ho' := (o_split c fo) $$ Ho
  icases Ho' with ⟨⟨Ho0, Ho1, Ho2, Ho3, Ho4⟩, HoR⟩
  imod (Transfers.mixedBatch_alloc' (Lvl := ℕ) (countersEmb (U := Pipeline.UD sig nD τ)) (c : Thread nD τ) () amtO (delivO c d8 fo) (sm := SemLoc.dma 8) (E := Set.univ)) $$ Hs with HB
  unfold delivO
  sl_exec_parts (disch := first | sl_exact hc1 | sl_exact hc2 | sl_exact hc3)
  sl_step
  iapply Hk
  isplitl [H5]; · iexact H5
  isplitl [H6]; · iexact H6
  isplitl [HQA]; · iexact HQA
  isplitl [HQP]; · iexact HQP
  isplitl [HT]; · iexact HT
  isplitl [HO]; · iexact HO
  isplitl [HB]; · iexact HB
  isplitl [HWR]; · iexact HWR
  isplitl [HoR]; · iexact HoR
  iexists _; iexact HWt

end Cert.KernelIdeal.Hand

end
-- ==== Proof.KI.Out.lean ====
/-
  What the last point stores in the result: the sum over the sixteen heads of the head's latent outputs, taken through the
  head's columns of the value projection and then through the head's rows of the output projection.
-/
module

public import proofs.«01_k».proof.Proof.KI.Weights

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

/-- The loads of the sum: a head's latent outputs, a head's columns of the value projection, and rows of the output
    projection's weights read where their copy landed (whole rows, or the left or the right half of them). -/
abbrev ldO (c : Dev nD) (gO : Cont (F := F) c mO) (o : Fin 3 → ℕ) (h : ∀ a, o a + S8x1x512.size a ≤ S8x16x512.size a) : Vec F S8x1x512 .f32 :=
  View.readAt (Elt F) mO.view (Rect.unit (s := S8x16x512) o S8x1x512.size h).toLoadRect gO
abbrev ldV (c : Dev nD) (arg3 : Memref sig .tc .vmem S512x4096 .f32) (f3 : Cont (F := F) c arg3) (o : Fin 2 → ℕ)
    (h : ∀ a, o a + S512x128.size a ≤ S512x4096.size a) : Vec F S512x128 .f32 :=
  View.readAt (Elt F) arg3.view (Rect.unit (s := S512x4096) o S512x128.size h).toLoadRect f3
/-- A slice of the weights' buffer holding what its copy delivered. -/
abbrev landed (c : Dev nD) {S : Shape} (Md : Memref sig .tc .vmem S .f32) (Ms : Memref sig .tc .hbm S .f32) (fo : Cont (F := F) c Ms) :
    Cont (F := F) c Md :=
  Md.view.writes (Elt F) Md.view.junk [⟨Rect.whole S, ReadAs.same.apply (View.read (Elt F) Ms.view fo)⟩]
abbrev ldW (c : Dev nD) (g : Cont (F := F) c mW) (o : Fin 2 → ℕ)
    (h : ∀ a, o a + S128x2048.size a ≤ S1536x3072.size a) : Vec F S128x2048 .f32 :=
  View.readAt (Elt F) mW.view (Rect.unit (s := S1536x3072) o S128x2048.size h).toLoadRect g
abbrev ldH (c : Dev nD) (g : Cont (F := F) c mW) (o : Fin 2 → ℕ)
    (h : ∀ a, o a + S128x1024.size a ≤ S1536x3072.size a) : Vec F S128x1024 .f32 :=
  View.readAt (Elt F) mW.view (Rect.unit (s := S1536x3072) o S128x1024.size h).toLoadRect g

/-- The sum over heads 0 to 4, -/
def sumA (c : Dev nD) (arg3 : Memref sig .tc .vmem S512x4096 .f32) (f3 : Cont (F := F) c arg3) (gO : Cont (F := F) c mO)
    (fo : Cont (F := F) c hO) : FVec F S8x2048 .f32 :=
  k0_pay105 (k0_pay103 (ldO c gO ![0, 0, 0] inb_S8x16x512_S8x1x512_0_0_0) (ldV c arg3 f3 ![0, 128] inb_S512x4096_S512x128_0_128) (ldW c (landed c wS0 oS0 fo) ![0, 0] inb_S1536x3072_S128x2048_0_0))
    (k0_pay104 (ldO c gO ![0, 1, 0] inb_S8x16x512_S8x1x512_0_1_0)) (ldV c arg3 f3 ![0, 384] inb_S512x4096_S512x128_0_384) (ldW c (landed c wS0 oS0 fo) ![128, 0] inb_S1536x3072_S128x2048_128_0)
    (ldO c gO ![0, 2, 0] inb_S8x16x512_S8x1x512_0_2_0) (ldV c arg3 f3 ![0, 640] inb_S512x4096_S512x128_0_640) (ldW c (landed c wS0 oS0 fo) ![256, 0] inb_S1536x3072_S128x2048_256_0)
    (ldO c gO ![0, 3, 0] inb_S8x16x512_S8x1x512_0_3_0) (ldV c arg3 f3 ![0, 896] inb_S512x4096_S512x128_0_896) (ldW c (landed c wS0 oS0 fo) ![384, 0] inb_S1536x3072_S128x2048_384_0)
    (ldO c gO ![0, 4, 0] inb_S8x16x512_S8x1x512_0_4_0) (ldV c arg3 f3 ![0, 1152] inb_S512x4096_S512x128_0_1152) (ldW c (landed c wS1 oS1 fo) ![512, 0] inb_S1536x3072_S128x2048_512_0)
/-- over heads 0 to 11, -/
def sumB (c : Dev nD) (arg3 : Memref sig .tc .vmem S512x4096 .f32) (f3 : Cont (F := F) c arg3) (gO : Cont (F := F) c mO)
    (fo : Cont (F := F) c hO) : FVec F S8x2048 .f32 :=
  k0_pay108 (k0_pay106 (sumA c arg3 f3 gO fo) (ldO c gO ![0, 5, 0] inb_S8x16x512_S8x1x512_0_5_0) (ldV c arg3 f3 ![0, 1408] inb_S512x4096_S512x128_0_1408) (ldW c (landed c wS1 oS1 fo) ![640, 0] inb_S1536x3072_S128x2048_640_0)
      (ldO c gO ![0, 6, 0] inb_S8x16x512_S8x1x512_0_6_0) (ldV c arg3 f3 ![0, 1664] inb_S512x4096_S512x128_0_1664) (ldW c (landed c wS1 oS1 fo) ![768, 0] inb_S1536x3072_S128x2048_768_0)
      (ldO c gO ![0, 7, 0] inb_S8x16x512_S8x1x512_0_7_0) (ldV c arg3 f3 ![0, 1920] inb_S512x4096_S512x128_0_1920) (ldW c (landed c wS1 oS1 fo) ![896, 0] inb_S1536x3072_S128x2048_896_0))
    (k0_pay107 (ldO c gO ![0, 8, 0] inb_S8x16x512_S8x1x512_0_8_0) (ldV c arg3 f3 ![0, 2176] inb_S512x4096_S512x128_0_2176) (ldW c (landed c wS2 oS2 fo) ![1024, 0] inb_S1536x3072_S128x2048_1024_0))
    (ldO c gO ![0, 9, 0] inb_S8x16x512_S8x1x512_0_9_0) (ldV c arg3 f3 ![0, 2432] inb_S512x4096_S512x128_0_2432) (ldW c (landed c wS2 oS2 fo) ![1152, 0] inb_S1536x3072_S128x2048_1152_0)
    (ldO c gO ![0, 10, 0] inb_S8x16x512_S8x1x512_0_10_0) (ldV c arg3 f3 ![0, 2688] inb_S512x4096_S512x128_0_2688) (ldW c (landed c wS2 oS2 fo) ![1280, 0] inb_S1536x3072_S128x2048_1280_0)
    (ldO c gO ![0, 11, 0] inb_S8x16x512_S8x1x512_0_11_0) (ldV c arg3 f3 ![0, 2944] inb_S512x4096_S512x128_0_2944) (ldW c (landed c wS2 oS2 fo) ![1408, 0] inb_S1536x3072_S128x2048_1408_0)
/-- over heads 0 to 14, -/
def sumC (c : Dev nD) (arg3 : Memref sig .tc .vmem S512x4096 .f32) (f3 : Cont (F := F) c arg3) (gO : Cont (F := F) c mO)
    (fo : Cont (F := F) c hO) : FVec F S8x2048 .f32 :=
  k0_pay110 (sumB c arg3 f3 gO fo) (k0_pay109 (ldO c gO ![0, 12, 0] inb_S8x16x512_S8x1x512_0_12_0) (ldV c arg3 f3 ![0, 3200] inb_S512x4096_S512x128_0_3200)) (ldH c (landed c wS3 oS3 fo) ![0, 2048] inb_S1536x3072_S128x1024_0_2048) (ldH c (landed c wS4 oS4 fo) ![512, 2048] inb_S1536x3072_S128x1024_512_2048)
    (ldO c gO ![0, 13, 0] inb_S8x16x512_S8x1x512_0_13_0) (ldV c arg3 f3 ![0, 3456] inb_S512x4096_S512x128_0_3456) (ldH c (landed c wS3 oS3 fo) ![128, 2048] inb_S1536x3072_S128x1024_128_2048) (ldH c (landed c wS4 oS4 fo) ![640, 2048] inb_S1536x3072_S128x1024_640_2048)
    (ldO c gO ![0, 14, 0] inb_S8x16x512_S8x1x512_0_14_0) (ldV c arg3 f3 ![0, 3712] inb_S512x4096_S512x128_0_3712) (ldH c (landed c wS3 oS3 fo) ![256, 2048] inb_S1536x3072_S128x1024_256_2048) (ldH c (landed c wS4 oS4 fo) ![768, 2048] inb_S1536x3072_S128x1024_768_2048)
/-- and over all sixteen, as stored. -/
def outOf (c : Dev nD) (arg3 : Memref sig .tc .vmem S512x4096 .f32) (f3 : Cont (F := F) c arg3) (gO : Cont (F := F) c mO)
    (fo : Cont (F := F) c hO) : FVec F S8x1x2048 .f32 :=
  k0_pay2 (sumC c arg3 f3 gO fo) (k0_pay111 (ldO c gO ![0, 15, 0] inb_S8x16x512_S8x1x512_0_15_0) (ldV c arg3 f3 ![0, 3968] inb_S512x4096_S512x128_0_3968))
    (ldH c (landed c wS3 oS3 fo) ![384, 2048] inb_S1536x3072_S128x1024_384_2048) (ldH c (landed c wS4 oS4 fo) ![896, 2048] inb_S1536x3072_S128x1024_896_2048)

end Cert.KernelIdeal.Hand

end
-- ==== Proof.KI.Run7.lean ====
/-
  The body at the last grid point: the batch's attention is stored in its row of the latent outputs, the five copies of
  the output projection's weights are waited for, and the projected heads are summed into the result.
-/
module

public import proofs.«01_k».proof.Proof.KI.Out

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 2000000 in
/-- The body's run at a point where the third branch alone is taken: from the five copies in flight, the weights are back
    and the result holds the sum over the heads. -/
theorem run7 (c : Dev nD) (i : grid0.Coords)
    (arg1 : Memref sig .tc .vmem S8x1536 .f32) (harg1 : arg1.IsWhole) (arg3 : Memref sig .tc .vmem S512x4096 .f32) (harg3 : arg3.IsWhole)
    (arg5 : Memref sig .tc .vmem S1x4096x512 .f32) (harg5 : arg5.IsWhole) (arg6 : Memref sig .tc .vmem S1x4096x64 .f32) (harg6 : arg6.IsWhole)
    (f3 : Cont (F := F) c arg3)
    (f5 : Cont (F := F) c arg5) (f6 : Cont (F := F) c arg6) (gQA : Cont (F := F) c mQA) (gQP : Cont (F := F) c mQP)
    (gT : Cont (F := F) c mT) (d12 : Cont (F := F) c mO)
    (fo : Cont (F := F) c hO)
    (arg7 : Memref sig .tc .vmem S8x1x2048 .f32) (harg7 : arg7.IsWhole)
        (hc1 : ¬ cond1 i = 1#1) (hc2 : ¬ cond2 i = 1#1) (hc3 : k0_cond3 i = 1#1) (W : Waits sig Unit) (K : PUnit → sProp 𝕄)
        (f7 : Cont (F := F) c arg7) (d8 : Cont (F := F) c mW) :
    iprop((arg5.view.loc (c : Thread nD τ) ↦[arg5.view.set]{fullShare} f5)
        ∗ (arg6.view.loc (c : Thread nD τ) ↦[arg6.view.set]{fullShare} f6)
        ∗ (mQA.view.loc (c : Thread nD τ) ↦{fullShare} gQA)
        ∗ (mQP.view.loc (c : Thread nD τ) ↦{fullShare} gQP)
        ∗ (mT.view.loc (c : Thread nD τ) ↦{fullShare} gT)
        ∗ (mO.view.loc (c : Thread nD τ) ↦{fullShare} d12)
        ∗ (arg3.view.loc (c : Thread nD τ) ↦[arg3.view.set]{fullShare} f3)
        ∗ (arg7.view.loc (c : Thread nD τ) ↦[arg7.view.set]{fullShare} f7)
        ∗ flight c d8 fo
        ∗ owes (c : Thread nD τ) 0 W
        ∗ (iprop((arg5.view.loc (c : Thread nD τ) ↦[arg5.view.set]{fullShare} f5)
        ∗ (arg6.view.loc (c : Thread nD τ) ↦[arg6.view.set]{fullShare} f6)
        ∗ (mQA.view.loc (c : Thread nD τ) ↦{fullShare} gQA)
        ∗ (mQP.view.loc (c : Thread nD τ) ↦{fullShare} gQP)
        ∗ (mT.view.loc (c : Thread nD τ) ↦{fullShare} gT)
        ∗ (mO.view.loc (c : Thread nD τ) ↦{fullShare} putRow c i d12 (rowOf c i arg5 arg6 f5 f6 gT gQA gQP))
        ∗ (arg3.view.loc (c : Thread nD τ) ↦[arg3.view.set]{fullShare} f3)
        ∗ (arg7.view.loc (c : Thread nD τ) ↦[arg7.view.set]{fullShare} arg7.view.writes (Elt F) f7 [⟨Rect.unit (s := S8x1x2048) ![0, 0, 0] S8x1x2048.size inb_S8x1x2048_S8x1x2048_0_0_0,
            outOf c arg3 f3 (putRow c i d12 (rowOf c i arg5 arg6 f5 f6 gT gQA gQP)) fo⟩])
        ∗ semVal ((c : Thread nD τ), SemLoc.dma 8) 0
        ∗ ((∃ f, held c wS0 f) ∗ (∃ f, held c wS1 f) ∗ (∃ f, held c wS2 f) ∗ (∃ f, held c wS3 f) ∗ (∃ f, held c wS4 f))
        ∗ (held c oS0 fo ∗ held c oS1 fo ∗ held c oS2 fo ∗ held c oS3 fo ∗ held c oS4 fo)
        ∗ (∃ W, owes (c : Thread nD τ) 0 W)) -∗ K ⟨⟩))
      ⊢ wp frame (wpE (defs₀ (F := F)) Variants.none c none) Set.univ
          (cc0__mla_kernel i arg1 harg1 hQ (Memref.isWhole_whole _) arg3 harg3 hO (Memref.isWhole_whole _) arg5 harg5 arg6 harg6 arg7 harg7
            mW (Memref.isWhole_whole _) mQA (Memref.isWhole_whole _) mQP (Memref.isWhole_whole _) mT (Memref.isWhole_whole _)
            mO (Memref.isWhole_whole _) cc0_scratch5 cc0_scratch6) K := by
  rw [cc0__mla_kernel_eq_skeleton]; unfold cc0__mla_kernel_skel
  iintro ⟨H5, H6, HQA, HQP, HT, HO, H3, H7, HB, HWt, Hk⟩
  unfold flight delivO
  sl_exec_parts (disch := first | sl_exact hc1 | sl_exact hc2 | sl_exact hc3)
  sl_step
  iapply Hk
  isplitl [H5]; · iexact H5
  isplitl [H6]; · iexact H6
  isplitl [HQA]; · iexact HQA
  isplitl [HQP]; · iexact HQP
  isplitl [HT]; · iexact HT
  isplitl [HO]; · iexact HO
  isplitl [H3]; · iexact H3
  isplitl [H7]; · iexact H7
  isplitl [HB]; · iexact HB
  isplitl [HB_dst0 HB_dst1 HB_dst2 HB_dst3 HB_dst4]
  · isplitl [HB_dst0]; · iexists _; iexact HB_dst0
    isplitl [HB_dst1]; · iexists _; iexact HB_dst1
    isplitl [HB_dst2]; · iexists _; iexact HB_dst2
    isplitl [HB_dst3]; · iexists _; iexact HB_dst3
    iexists _; iexact HB_dst4
  isplitl [HB_src0 HB_src1 HB_src2 HB_src3 HB_src4]
  · isplitl [HB_src0]; · iexact HB_src0
    isplitl [HB_src1]; · iexact HB_src1
    isplitl [HB_src2]; · iexact HB_src2
    isplitl [HB_src3]; · iexact HB_src3
    iexact HB_src4
  iexists _; iexact HWt

end Cert.KernelIdeal.Hand

end
-- ==== Proof.KI.State.lean ====
/-
  What the kernel's buffers hold between grid points: the queries and the rotary table the first point leaves, and the
  latent outputs after the first `n` points.
-/
module

public import proofs.«01_k».proof.Proof.KI.Run0
public import proofs.«01_k».proof.Proof.KI.RunMid
public import proofs.«01_k».proof.Proof.KI.Run1
public import proofs.«01_k».proof.Proof.KI.Run7
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ)

/-! ## The windows at a point -/

abbrev ms0 (t : Fin cfg0.N) : Memref sig .tc .vmem S8x1536 .f32 := win0_0.stage (cfg0.slots t 0)
abbrev ms1 (t : Fin cfg0.N) : Memref sig .tc .vmem S512x4096 .f32 := win0_1.stage (cfg0.slots t 1)
abbrev ms2 (t : Fin cfg0.N) : Memref sig .tc .vmem S1x4096x512 .f32 := win0_2.stage (cfg0.slots t 2)
abbrev ms3 (t : Fin cfg0.N) : Memref sig .tc .vmem S1x4096x64 .f32 := win0_3.stage (cfg0.slots t 3)
abbrev ms4 (t : Fin cfg0.N) : Memref sig .tc .vmem S8x1x2048 .f32 := win0_4.stage (cfg0.slots t 4)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)

/-- The branches' conditions at a point, decided. -/
theorem hcond1 : ∀ t : Fin grid0.N, cond1 (grid0.coords t) = 1#1 ↔ t.val = 0 := by decide +kernel
theorem hcond2 : ∀ t : Fin grid0.N, cond2 (grid0.coords t) = 1#1 ↔ t.val = 1 := by decide +kernel
theorem hcond3 : ∀ t : Fin grid0.N, k0_cond3 (grid0.coords t) = 1#1 ↔ t.val = 7 := by decide +kernel
/-- A point's one coordinate is the point. -/
theorem hcoord : ∀ t : Fin grid0.N, (grid0.coords t 0).val = t.val := by decide +kernel

/-! ## What the first point leaves -/

/-- The pieces the first point stores in the absorbed queries, the rotary queries and the rotary table. -/
def L0 (c : Dev nD) : List (View.Piece (Elt F) S8x16x512 .f32) × List (View.Piece (Elt F) S8x16x64 .f32) × List (View.Piece (Elt F) S4096x64 .bf16) :=
  (run0 (F := F) c (grid0.coords t0_0) (ms0 t0_0) (hs0 t0_0) (ms1 t0_0) (hs1 t0_0) (ms2 t0_0) (hs2 t0_0) (ms3 t0_0) (hs3 t0_0)
    ((ms0 t0_0).view.rep (iblk m c 0 t0_0)) ((ms1 t0_0).view.rep (iblk m c 1 t0_0)) (V m c main_arg3)).1

def gQA (c : Dev nD) : Cont (F := F) c mQA := mQA.view.writes (Elt F) mQA.view.junk (L0 m c).1
def gQP (c : Dev nD) : Cont (F := F) c mQP := mQP.view.writes (Elt F) mQP.view.junk (L0 m c).2.1
def gT (c : Dev nD) : Cont (F := F) c mT := mT.view.writes (Elt F) mT.view.junk (L0 m c).2.2

/-! ## The latent outputs -/

/-- The row the point `t` stores. -/
def rowAt (c : Dev nD) (t : Fin grid0.N) : FVec F S1x16x512 .f32 :=
  rowOf c (grid0.coords t) (ms2 t) (ms3 t) ((ms2 t).view.rep (iblk m c 2 t)) ((ms3 t).view.rep (iblk m c 3 t)) (gT m c) (gQA m c) (gQP m c)

/-- The latent outputs after the first `n` points, from contents `d`. -/
def latent (c : Dev nD) (d : Cont (F := F) c mO) : ℕ → Cont (F := F) c mO
  | 0 => d
  | n + 1 => if h : n < grid0.N then putRow c (grid0.coords ⟨n, h⟩) (latent c d n) (rowAt m c ⟨n, h⟩) else latent c d n

theorem latent_succ (c : Dev nD) (d : Cont (F := F) c mO) (t : Fin grid0.N) :
    latent m c d (t.val + 1) = putRow c (grid0.coords t) (latent m c d t.val) (rowAt m c t) := by
  show (if h : t.val < grid0.N then _ else _) = _
  rw [dif_pos t.isLt]

/-- A row's element, at an index of the latent outputs. -/
def inRow (y : S8x16x512.Idx) : S1x16x512.Idx := fun
  | ⟨0, _⟩ => (0 : Fin 1)
  | ⟨1, _⟩ => y 1
  | ⟨2, _⟩ => y 2

/-- The row just stored reads as stored, the others as before. -/
theorem read_putRow_same (c : Dev nD) (i : grid0.Coords) (d : Cont (F := F) c mO) (r : FVec F S1x16x512 .f32) (y : S8x16x512.Idx)
    (h : (y 0).val = (i 0).val) : mO.view.read (Elt F) (putRow c i d r) y = r (inRow y) := by
  refine View.read_writes_cons_unit_of_mem mO.view d (k0_off1_inb i) r [] y (inRow y) (k0_off1_eq i) (fun a => ?_)
  match a with
  | ⟨0, _⟩ => exact h
  | ⟨1, _⟩ => exact (Nat.zero_add _).symm
  | ⟨2, _⟩ => exact (Nat.zero_add _).symm
theorem read_putRow_other (c : Dev nD) (i : grid0.Coords) (d : Cont (F := F) c mO) (r : FVec F S1x16x512 .f32) (y : S8x16x512.Idx)
    (h : (y 0).val ≠ (i 0).val) : mO.view.read (Elt F) (putRow c i d r) y = mO.view.read (Elt F) d y :=
  View.read_writes_cons_unit_of_not_mem mO.view d (k0_off1_inb i) r [] y (k0_off1_eq i) 0 (by
    show (y 0).val < (i 0).val ∨ (i 0).val + 1 ≤ (y 0).val
    omega)

/-- After `n` points the rows below `n` are the stored ones. -/
theorem read_latent (c : Dev nD) (d : Cont (F := F) c mO) (n : ℕ) (hn : n ≤ grid0.N) (y : S8x16x512.Idx) (hy : (y 0).val < n) :
    mO.view.read (Elt F) (latent m c d n) y = rowAt m c ⟨(y 0).val, lt_of_lt_of_le hy hn⟩ (inRow y) := by
  induction n with
  | zero => exact absurd hy (Nat.not_lt_zero _)
  | succ k ih =>
    have hk : k < grid0.N := hn
    rw [latent_succ m c d ⟨k, hk⟩]
    have hc : (grid0.coords ⟨k, hk⟩ 0).val = k := hcoord ⟨k, hk⟩
    by_cases h : (y 0).val = k
    · rw [read_putRow_same c _ _ _ y (h.trans hc.symm)]
      exact congrArg (fun t => rowAt m c t (inRow y)) (Fin.ext h.symm)
    · rw [read_putRow_other c _ _ _ y (fun e => h (e.trans hc))]
      exact ih (by omega) (by omega)

/-- The whole latent outputs, row by row. -/
theorem read_latent_all (c : Dev nD) (d : Cont (F := F) c mO) (y : S8x16x512.Idx) :
    mO.view.read (Elt F) (latent m c d 8) y = rowAt m c ⟨(y 0).val, (y 0).isLt⟩ (inRow y) :=
  read_latent m c d 8 (by decide) y (y 0).isLt

/-- Contents of the latent outputs' buffer that read alike are the same. -/
theorem eq_of_read (c : Dev nD) (f g : Cont (F := F) c mO) (h : mO.view.read (Elt F) f = mO.view.read (Elt F) g) : f = g := h

/-- After the last point nothing is left of what was there before. -/
theorem latent_all (c : Dev nD) (d d' : Cont (F := F) c mO) : latent m c d 8 = latent m c d' 8 :=
  eq_of_read c _ _ (funext fun y => (read_latent_all m c d y).trans (read_latent_all m c d' y).symm)

/-- The same steps, as the runs of the body state them. -/
theorem latent_next (c : Dev nD) (d : Cont (F := F) c mO) (t : Fin grid0.N) (n : ℕ) (h : t.val = n) :
    putRow c (grid0.coords t) (latent m c d n) (rowAt m c t) = latent m c d (t.val + 1) := by
  subst h; exact (latent_succ m c d t).symm
theorem latent_end (c : Dev nD) (d : Cont (F := F) c mO) (t : Fin grid0.N) (h : t.val = 7) :
    putRow c (grid0.coords t) (latent m c d t.val) (rowAt m c t) = latent m c mO.view.junk 8 := by
  rw [latent_next m c d t t.val rfl, h]; exact latent_all m c d _

/-- The result: the output projection of the latent outputs. -/
def outAt (c : Dev nD) (t : Fin grid0.N) : FVec F S8x1x2048 .f32 :=
  outOf c (ms1 t) ((ms1 t).view.rep (iblk m c 1 t)) (latent m c mO.view.junk 8) (V m c main_arg5)

end Cert.KernelIdeal.Hand

end
-- ==== Proof.KI.Data.lean ====
/-
  The frame of the kernel: what holds between grid points, the body's obligation at each, and the launch.
-/
module

public import proofs.«01_k».proof.Proof.KI.State
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ)

variable (ρ : Dev nD → PrngReg)

/-! ## The region's surroundings, over the algebra the transfers count in -/

set_option maxHeartbeats 800000 in
/-- @main up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An input window's buffer holds its block at every point. -/
theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The semaphores the body counts its copies on, and the weights it reads in HBM. -/
abbrev osem0 : Fin 2 → SemLoc sig := fun j => (![SemLoc.dma 7, SemLoc.dma 8] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0) := by
  rw [Pipeline.ownSems0_eq_of_list c osem0 [0, 1] (by decide) (by decide)]; rfl
def H0 : Finset (Ref sig .tc) := {main_arg3, main_arg5}
theorem H0_sub : H0 ⊆ Pipeline.restRefs sig spec0 := by decide
theorem hbmPts0_eq (c : Dev nD) :
    (bigSep H0 (fun b => ((c : Thread nD τ).loc b) ↦{fullShare} V m c b) : sProp 𝕄)
      = iprop((hQ.view.loc (c : Thread nD τ) ↦{fullShare} V m c main_arg3) ∗ (hO.view.loc (c : Thread nD τ) ↦{fullShare} V m c main_arg5)) := by
  rw [BI.bigSep_eq_bigSepL_of_eq [main_arg3, main_arg5] (by decide) (by decide)]; rfl

/-! ## What holds between points -/

/-- At rest: every scratch buffer at anything, no copy in flight, the weights in HBM whole. -/
def PhiRest (c : Dev nD) : sProp 𝕄 :=
  iprop(iprop((∃ f : Cont (F := F) c mW, mW.view.loc (c : Thread nD τ) ↦{fullShare} f) ∗ (∃ f : Cont (F := F) c mQA, mQA.view.loc (c : Thread nD τ) ↦{fullShare} f)
      ∗ (∃ f : Cont (F := F) c mQP, mQP.view.loc (c : Thread nD τ) ↦{fullShare} f) ∗ (∃ f : Cont (F := F) c mT, mT.view.loc (c : Thread nD τ) ↦{fullShare} f)
      ∗ (∃ f : Cont (F := F) c mO, mO.view.loc (c : Thread nD τ) ↦{fullShare} f))
    ∗ (∃ r, prngReg c r)
    ∗ iprop(semVal ((c : Thread nD τ), SemLoc.dma 7) 0 ∗ semVal ((c : Thread nD τ), SemLoc.dma 8) 0)
    ∗ iprop((hQ.view.loc (c : Thread nD τ) ↦{fullShare} V m c main_arg3) ∗ (hO.view.loc (c : Thread nD τ) ↦{fullShare} V m c main_arg5)))

theorem PhiRest_eq (c : Dev nD) : (Pipeline.ΦD osem0 spec0 H0 (V m) c : sProp 𝕄) = PhiRest m c := by
  rw [Pipeline.ΦD_eq, scopedRest0_eq, ownSems00_eq, hbmPts0_eq]; rfl

/-- What every point after the first finds and leaves: the queries and the table, the latent outputs after `n` points,
    the generator's register, the first copy's semaphore at zero, the query weights whole. -/
def PhiCore (c : Dev nD) (n : ℕ) : sProp 𝕄 :=
  iprop((mQA.view.loc (c : Thread nD τ) ↦{fullShare} gQA m c) ∗ (mQP.view.loc (c : Thread nD τ) ↦{fullShare} gQP m c)
    ∗ (mT.view.loc (c : Thread nD τ) ↦{fullShare} gT m c)
    ∗ (∃ d, mO.view.loc (c : Thread nD τ) ↦{fullShare} latent m c d n)
    ∗ (∃ r, prngReg c r) ∗ semVal ((c : Thread nD τ), SemLoc.dma 7) 0 ∗ (hQ.view.loc (c : Thread nD τ) ↦{fullShare} V m c main_arg3))

/-- After the first point: no copy in flight yet. -/
def PhiOne (c : Dev nD) : sProp 𝕄 :=
  iprop(PhiCore m c 1 ∗ (∃ d : Cont (F := F) c mW, mW.view.loc (c : Thread nD τ) ↦{fullShare} d) ∗ semVal ((c : Thread nD τ), SemLoc.dma 8) 0
    ∗ (hO.view.loc (c : Thread nD τ) ↦{fullShare} V m c main_arg5))

/-- From the second point to the last: the five copies in flight. -/
def PhiMid (c : Dev nD) (n : ℕ) : sProp 𝕄 :=
  iprop(PhiCore m c n ∗ (∃ d : Cont (F := F) c mW, flight c d (V m c main_arg5) ∗ wRest c d) ∗ oRest c (V m c main_arg5))

/-- What holds before point `n`. -/
def Phi (c : Dev nD) (n : ℕ) : sProp 𝕄 :=
  if n = 0 then PhiRest m c else if n = 1 then PhiOne m c else if n < 8 then PhiMid m c n else PhiRest m c

theorem Phi_zero (c : Dev nD) : Phi m c 0 = PhiRest m c := if_pos rfl
theorem Phi_one (c : Dev nD) : Phi m c 1 = PhiOne m c := by unfold Phi; rw [if_neg (by decide), if_pos rfl]
theorem Phi_mid (c : Dev nD) (n : ℕ) (h2 : 2 ≤ n) (h8 : n < 8) : Phi m c n = PhiMid m c n := by
  unfold Phi; rw [if_neg (by omega), if_neg (by omega), if_pos h8]
theorem Phi_last (c : Dev nD) : Phi m c 8 = PhiRest m c := by
  unfold Phi; rw [if_neg (by decide), if_neg (by decide), if_neg (by decide)]

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ n := Phi m c n.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem idle4 : ∀ t : Fin grid0.N, idle0 4 (grid0.coords t) = decide (t.val ≠ 7) := by decide +kernel
theorem flush4 (t : Fin cfg0.N) (h : t.val ≠ 7) : (cfg0.win 4).flush t = false := by
  have := (flush0_4 t).not.mpr (by have := t.isLt; have h8 : cfg0.N = 8 := N_0; omega)
  exact Bool.eq_false_iff.mpr this

/-- The result window's buffer after point `t`: as found at every point but the last, the result at the last. -/
def post4 (c : Dev nD) (t : Fin cfg0.N) : sProp 𝕄 :=
  match cfg0.idle 4 (cfg0.grid.coords t) with
  | true =>
    match (cfg0.win 4).flush t with
    | false => iprop(∃ d, owns (c : Thread nD τ) ((cfg0.win 4).stage (cfg0.slots t 4)) fullShare ((dats m 0 c).before 4 t d))
    | true => owns (c : Thread nD τ) ((cfg0.win 4).stage (cfg0.slots t 4)) fullShare ((dats m 0 c).after 4 t)
  | false => owns (c : Thread nD τ) ((cfg0.win 4).stage (cfg0.slots t 4)) fullShare ((dats m 0 c).after 4 t)

theorem post4_idle (c : Dev nD) (t : Fin cfg0.N) (h : t.val ≠ 7) :
    post4 m c t = iprop(∃ d, owns (c : Thread nD τ) (ms4 t) fullShare ((dats m 0 c).before 4 t d)) := by
  unfold post4
  rw [show cfg0.idle 4 (cfg0.grid.coords t) = true from (idle4 t).trans (decide_eq_true h), flush4 t h]
theorem post4_live (c : Dev nD) (t : Fin cfg0.N) (h : t.val = 7) :
    post4 m c t = owns (c : Thread nD τ) (ms4 t) fullShare (outAt m c t) := by
  unfold post4
  rw [show cfg0.idle 4 (cfg0.grid.coords t) = false from (idle4 t).trans (decide_eq_false (not_not.mpr h)), after4]

def bodyPre (c : Dev nD) (t : Fin cfg0.N) : sProp 𝕄 :=
  iprop(Phi m c t.val ∗ (∃ W, owes (c : Thread nD τ) 0 W)
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop(Phi m c (t.val + 1) ∗ (∃ W, owes (c : Thread nD τ) 0 W)
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ post4 m c t)

/-- An input window found at its block, as the buffer's points-to at the block's representative, and back. -/
theorem found0 (c : Dev nD) (t : Fin cfg0.N) : iprop(∃ d, owns (c : Thread nD τ) (ms0 t) fullShare ((dats m 0 c).before 0 t d))
    ⊢ ((ms0 t).view.loc (c : Thread nD τ) ↦[(ms0 t).view.set]{fullShare} (ms0 t).view.rep (iblk m c 0 t) : sProp 𝕄) := by
  iintro ⟨%d, H⟩
  rw [before0 m (dats m 0 c) (A_eq m c 0) (after0 m c) t d]
  iapply (rep_of_owns (c : Thread nD τ) (ms0 t) fullShare _); iexact H
theorem found1 (c : Dev nD) (t : Fin cfg0.N) : iprop(∃ d, owns (c : Thread nD τ) (ms1 t) fullShare ((dats m 0 c).before 1 t d))
    ⊢ ((ms1 t).view.loc (c : Thread nD τ) ↦[(ms1 t).view.set]{fullShare} (ms1 t).view.rep (iblk m c 1 t) : sProp 𝕄) := by
  iintro ⟨%d, H⟩
  rw [before1 m (dats m 0 c) (A_eq m c 1) (after1 m c) t d]
  iapply (rep_of_owns (c : Thread nD τ) (ms1 t) fullShare _); iexact H
theorem found2 (c : Dev nD) (t : Fin cfg0.N) : iprop(∃ d, owns (c : Thread nD τ) (ms2 t) fullShare ((dats m 0 c).before 2 t d))
    ⊢ ((ms2 t).view.loc (c : Thread nD τ) ↦[(ms2 t).view.set]{fullShare} (ms2 t).view.rep (iblk m c 2 t) : sProp 𝕄) := by
  iintro ⟨%d, H⟩
  rw [before2 m (dats m 0 c) (A_eq m c 2) (after2 m c) t d]
  iapply (rep_of_owns (c : Thread nD τ) (ms2 t) fullShare _); iexact H
theorem found3 (c : Dev nD) (t : Fin cfg0.N) : iprop(∃ d, owns (c : Thread nD τ) (ms3 t) fullShare ((dats m 0 c).before 3 t d))
    ⊢ ((ms3 t).view.loc (c : Thread nD τ) ↦[(ms3 t).view.set]{fullShare} (ms3 t).view.rep (iblk m c 3 t) : sProp 𝕄) := by
  iintro ⟨%d, H⟩
  rw [before3 m (dats m 0 c) (A_eq m c 3) (after3 m c) t d]
  iapply (rep_of_owns (c : Thread nD τ) (ms3 t) fullShare _); iexact H
theorem left0 (c : Dev nD) (t : Fin cfg0.N) : ((ms0 t).view.loc (c : Thread nD τ) ↦[(ms0 t).view.set]{fullShare} (ms0 t).view.rep (iblk m c 0 t) : sProp 𝕄)
    ⊢ owns (c : Thread nD τ) (ms0 t) fullShare ((dats m 0 c).after 0 t) := by rw [after0]; exact owns_of_rep _ _ _ _
theorem left1 (c : Dev nD) (t : Fin cfg0.N) : ((ms1 t).view.loc (c : Thread nD τ) ↦[(ms1 t).view.set]{fullShare} (ms1 t).view.rep (iblk m c 1 t) : sProp 𝕄)
    ⊢ owns (c : Thread nD τ) (ms1 t) fullShare ((dats m 0 c).after 1 t) := by rw [after1]; exact owns_of_rep _ _ _ _
theorem left2 (c : Dev nD) (t : Fin cfg0.N) : ((ms2 t).view.loc (c : Thread nD τ) ↦[(ms2 t).view.set]{fullShare} (ms2 t).view.rep (iblk m c 2 t) : sProp 𝕄)
    ⊢ owns (c : Thread nD τ) (ms2 t) fullShare ((dats m 0 c).after 2 t) := by rw [after2]; exact owns_of_rep _ _ _ _
theorem left3 (c : Dev nD) (t : Fin cfg0.N) : ((ms3 t).view.loc (c : Thread nD τ) ↦[(ms3 t).view.set]{fullShare} (ms3 t).view.rep (iblk m c 3 t) : sProp 𝕄)
    ⊢ owns (c : Thread nD τ) (ms3 t) fullShare ((dats m 0 c).after 3 t) := by rw [after3]; exact owns_of_rep _ _ _ _

/-- A window the body does not touch, found and left. -/
theorem back0 (c : Dev nD) (t : Fin cfg0.N) : iprop(∃ d, owns (c : Thread nD τ) (ms0 t) fullShare ((dats m 0 c).before 0 t d))
    ⊢ (owns (c : Thread nD τ) (ms0 t) fullShare ((dats m 0 c).after 0 t) : sProp 𝕄) := (found0 m c t).trans (left0 m c t)
theorem back1 (c : Dev nD) (t : Fin cfg0.N) : iprop(∃ d, owns (c : Thread nD τ) (ms1 t) fullShare ((dats m 0 c).before 1 t d))
    ⊢ (owns (c : Thread nD τ) (ms1 t) fullShare ((dats m 0 c).after 1 t) : sProp 𝕄) := (found1 m c t).trans (left1 m c t)

end Cert.KernelIdeal.Hand

end
-- ==== Proof.KI.Frame.lean ====
/-
  The body at every grid point, and the kernel's frame from it.
-/
module

public import proofs.«01_k».proof.Proof.KI.Data

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ)

variable (ρ : Dev nD → PrngReg)

set_option maxHeartbeats 1000000 in
/-- The first point. -/
theorem sound0 (c : Dev nD) :
    bodyPre m c t0_0 ⊢ wp frame (wpE (defs₀ (F := F)) Variants.none c none) Set.univ (bodyAt0 t0_0) (fun _ => bodyPost m c t0_0) := by
  unfold bodyPre bodyPost bodyAt0
  rw [show Phi m c t0_0.val = PhiRest m c from Phi_zero m c, show Phi m c (t0_0.val + 1) = PhiOne m c from Phi_one m c,
    post4_idle m c t0_0 (by decide)]
  unfold PhiRest PhiOne PhiCore
  iintro ⟨⟨⟨⟨%d8, HW⟩, ⟨%d9, HQA⟩, ⟨%d10, HQP⟩, ⟨%d11, HT⟩, ⟨%d12, HO⟩⟩, Hg, ⟨Hs7, Hs8⟩, HQ, HhO⟩, ⟨%W, HWt⟩, H0, H1, H2, H3, H4⟩
  ihave H0 := (found0 m c t0_0) $$ H0
  ihave H1 := (found1 m c t0_0) $$ H1
  ihave H2 := (found2 m c t0_0) $$ H2
  ihave H3 := (found3 m c t0_0) $$ H3
  iapply ((run0 (F := F) c (grid0.coords t0_0) (ms0 t0_0) (hs0 t0_0) (ms1 t0_0) (hs1 t0_0) (ms2 t0_0) (hs2 t0_0) (ms3 t0_0) (hs3 t0_0)
    ((ms0 t0_0).view.rep (iblk m c 0 t0_0)) ((ms1 t0_0).view.rep (iblk m c 1 t0_0)) (V m c main_arg3)).2 (ms4 t0_0) (hs4 t0_0)
    ((hcond1 t0_0).mpr rfl) ((hcond2 t0_0).not.mpr (by decide)) ((hcond3 t0_0).not.mpr (by decide))
    ((ms2 t0_0).view.rep (iblk m c 2 t0_0)) ((ms3 t0_0).view.rep (iblk m c 3 t0_0)) W _ d8 d9 d10 d11 d12)
  isplitl [H0]; · iexact H0
  isplitl [H1]; · iexact H1
  isplitl [H2]; · iexact H2
  isplitl [H3]; · iexact H3
  isplitl [HQ]; · iexact HQ
  isplitl [HW]; · iexact HW
  isplitl [HQA]; · iexact HQA
  isplitl [HQP]; · iexact HQP
  isplitl [HT]; · iexact HT
  isplitl [HO]; · iexact HO
  isplitl [Hs7]; · iexact Hs7
  isplitl [HWt]; · iexact HWt
  iintro ⟨H0, H1, H2, H3, HQ, HW, HQA, HQP, HT, HO, Hs7, HWt⟩
  isplitl [HQ HW HQA HQP HT HO Hs7 Hs8 Hg HhO]
  · isplitl [HQ HQA HQP HT HO Hs7 Hg]
    · isplitl [HQA]; · iexact HQA
      isplitl [HQP]; · iexact HQP
      isplitl [HT]; · iexact HT
      isplitl [HO]
      · iexists d12
        iapply (Entails.of_eq (congrArg (fun g => (mO.view.loc (c : Thread nD τ) ↦{fullShare} g : sProp 𝕄)) (latent_succ m c d12 t0_0).symm)); iexact HO
      isplitl [Hg]; · iexact Hg
      isplitl [Hs7]; · iexact Hs7
      iexact HQ
    isplitl [HW]; · iexact HW
    isplitl [Hs8]; · iexact Hs8
    iexact HhO
  isplitl [HWt]; · iexact HWt
  isplitl [H0]; · iapply (left0 m c t0_0); iexact H0
  isplitl [H1]; · iapply (left1 m c t0_0); iexact H1
  isplitl [H2]; · iapply (left2 m c t0_0); iexact H2
  isplitl [H3]; · iapply (left3 m c t0_0); iexact H3
  iexact H4

set_option maxHeartbeats 1000000 in
/-- The second point. -/
theorem sound1 (c : Dev nD) (t : Fin grid0.N) (h : t.val = 1) :
    bodyPre m c t ⊢ wp frame (wpE (defs₀ (F := F)) Variants.none c none) Set.univ (bodyAt0 t) (fun _ => bodyPost m c t) := by
  unfold bodyPre bodyPost bodyAt0
  rw [show Phi m c t.val = PhiOne m c by rw [h]; exact Phi_one m c, Phi_mid m c (t.val + 1) (by omega) (by omega),
    post4_idle m c t (by omega)]
  unfold PhiOne PhiMid PhiCore
  iintro ⟨⟨⟨HQA, HQP, HT, ⟨%d12, HO⟩, Hg, Hs7, HQ⟩, ⟨%d8, HW⟩, Hs8, HhO⟩, ⟨%W, HWt⟩, H0, H1, H2, H3, H4⟩
  ihave H2 := (found2 m c t) $$ H2
  ihave H3 := (found3 m c t) $$ H3
  iapply (run1 (F := F) c (grid0.coords t) (ms0 t) (hs0 t) (ms1 t) (hs1 t) (ms2 t) (hs2 t) (ms3 t) (hs3 t) (ms4 t) (hs4 t)
    ((hcond1 t).not.mpr (by omega)) ((hcond2 t).mpr h) ((hcond3 t).not.mpr (by omega))
    ((ms2 t).view.rep (iblk m c 2 t)) ((ms3 t).view.rep (iblk m c 3 t)) (gQA m c) (gQP m c) (gT m c) (latent m c d12 1) _ W d8 (V m c main_arg5))
  isplitl [H2]; · iexact H2
  isplitl [H3]; · iexact H3
  isplitl [HQA]; · iexact HQA
  isplitl [HQP]; · iexact HQP
  isplitl [HT]; · iexact HT
  isplitl [HO]; · iexact HO
  isplitl [HW]; · iexact HW
  isplitl [HhO]; · iexact HhO
  isplitl [Hs8]; · iexact Hs8
  isplitl [HWt]; · iexact HWt
  iintro ⟨H2, H3, HQA, HQP, HT, HO, HB, HwR, HoR, HWt⟩
  isplitl [HQ HQA HQP HT HO Hs7 Hg HB HwR HoR]
  · isplitl [HQ HQA HQP HT HO Hs7 Hg]
    · isplitl [HQA]; · iexact HQA
      isplitl [HQP]; · iexact HQP
      isplitl [HT]; · iexact HT
      isplitl [HO]
      · iexists d12
        iapply (Entails.of_eq (congrArg (fun g => (mO.view.loc (c : Thread nD τ) ↦{fullShare} g : sProp 𝕄)) (latent_next m c d12 t 1 h))); iexact HO
      isplitl [Hg]; · iexact Hg
      isplitl [Hs7]; · iexact Hs7
      iexact HQ
    isplitl [HB HwR]
    · iexists d8
      isplitl [HB]; · iexact HB
      iexact HwR
    iexact HoR
  isplitl [HWt]; · iexact HWt
  isplitl [H0]; · iapply (back0 m c t); iexact H0
  isplitl [H1]; · iapply (back1 m c t); iexact H1
  isplitl [H2]; · iapply (left2 m c t); iexact H2
  isplitl [H3]; · iapply (left3 m c t); iexact H3
  iexact H4

set_option maxHeartbeats 1000000 in
/-- The points between the second and the last. -/
theorem soundMid (c : Dev nD) (t : Fin grid0.N) (h2 : 2 ≤ t.val) (h7 : t.val < 7) :
    bodyPre m c t ⊢ wp frame (wpE (defs₀ (F := F)) Variants.none c none) Set.univ (bodyAt0 t) (fun _ => bodyPost m c t) := by
  unfold bodyPre bodyPost bodyAt0
  rw [Phi_mid m c t.val (by omega) (by omega), Phi_mid m c (t.val + 1) (by omega) (by omega), post4_idle m c t (by omega)]
  unfold PhiMid PhiCore
  iintro ⟨⟨⟨HQA, HQP, HT, ⟨%d12, HO⟩, Hg, Hs7, HQ⟩, HB, HoR⟩, HWt, H0, H1, H2, H3, H4⟩
  ihave H2 := (found2 m c t) $$ H2
  ihave H3 := (found3 m c t) $$ H3
  iapply (runMid (F := F) c (grid0.coords t) (ms0 t) (hs0 t) (ms1 t) (hs1 t) (ms2 t) (hs2 t) (ms3 t) (hs3 t) (ms4 t) (hs4 t)
    ((hcond1 t).not.mpr (by omega)) ((hcond2 t).not.mpr (by omega)) ((hcond3 t).not.mpr (by omega))
    ((ms2 t).view.rep (iblk m c 2 t)) ((ms3 t).view.rep (iblk m c 3 t)) (gQA m c) (gQP m c) (gT m c) (latent m c d12 t.val) _)
  isplitl [H2]; · iexact H2
  isplitl [H3]; · iexact H3
  isplitl [HQA]; · iexact HQA
  isplitl [HQP]; · iexact HQP
  isplitl [HT]; · iexact HT
  isplitl [HO]; · iexact HO
  iintro ⟨H2, H3, HQA, HQP, HT, HO⟩
  isplitl [HQ HQA HQP HT HO Hs7 Hg HB HoR]
  · isplitl [HQ HQA HQP HT HO Hs7 Hg]
    · isplitl [HQA]; · iexact HQA
      isplitl [HQP]; · iexact HQP
      isplitl [HT]; · iexact HT
      isplitl [HO]
      · iexists d12
        iapply (Entails.of_eq (congrArg (fun g => (mO.view.loc (c : Thread nD τ) ↦{fullShare} g : sProp 𝕄)) (latent_next m c d12 t t.val rfl))); iexact HO
      isplitl [Hg]; · iexact Hg
      isplitl [Hs7]; · iexact Hs7
      iexact HQ
    isplitl [HB]; · iexact HB
    iexact HoR
  isplitl [HWt]; · iexact HWt
  isplitl [H0]; · iapply (back0 m c t); iexact H0
  isplitl [H1]; · iapply (back1 m c t); iexact H1
  isplitl [H2]; · iapply (left2 m c t); iexact H2
  isplitl [H3]; · iapply (left3 m c t); iexact H3
  iexact H4

set_option maxHeartbeats 1000000 in
/-- The last point. -/
theorem sound7 (c : Dev nD) (t : Fin grid0.N) (h : t.val = 7) :
    bodyPre m c t ⊢ wp frame (wpE (defs₀ (F := F)) Variants.none c none) Set.univ (bodyAt0 t) (fun _ => bodyPost m c t) := by
  unfold bodyPre bodyPost bodyAt0
  rw [Phi_mid m c t.val (by omega) (by omega), show Phi m c (t.val + 1) = PhiRest m c by rw [h]; exact Phi_last m c, post4_live m c t h]
  unfold PhiMid PhiCore PhiRest
  iintro ⟨⟨⟨HQA, HQP, HT, ⟨%d12, HO⟩, Hg, Hs7, HQ⟩, ⟨%d8, HB, HwR⟩, HoR⟩, ⟨%W, HWt⟩, H0, H1, H2, H3, ⟨%d4, H4⟩⟩
  ihave H1 := (found1 m c t) $$ H1
  ihave H2 := (found2 m c t) $$ H2
  ihave H3 := (found3 m c t) $$ H3
  ihave H4 := (rep_of_owns (c : Thread nD τ) (ms4 t) fullShare _) $$ H4
  iapply (run7 (F := F) c (grid0.coords t) (ms0 t) (hs0 t) (ms1 t) (hs1 t) (ms2 t) (hs2 t) (ms3 t) (hs3 t)
    ((ms1 t).view.rep (iblk m c 1 t)) ((ms2 t).view.rep (iblk m c 2 t)) ((ms3 t).view.rep (iblk m c 3 t)) (gQA m c) (gQP m c) (gT m c)
    (latent m c d12 t.val) (V m c main_arg5) (ms4 t) (hs4 t)
    ((hcond1 t).not.mpr (by omega)) ((hcond2 t).not.mpr (by omega)) ((hcond3 t).mpr h) W _ _ d8)
  isplitl [H2]; · iexact H2
  isplitl [H3]; · iexact H3
  isplitl [HQA]; · iexact HQA
  isplitl [HQP]; · iexact HQP
  isplitl [HT]; · iexact HT
  isplitl [HO]; · iexact HO
  isplitl [H1]; · iexact H1
  isplitl [H4]; · iexact H4
  isplitl [HB]; · iexact HB
  isplitl [HWt]; · iexact HWt
  iintro ⟨H2, H3, HQA, HQP, HT, HO, H1, H4, Hs8, ⟨⟨%f0, Hw0⟩, ⟨%f1, Hw1⟩, ⟨%f2, Hw2⟩, ⟨%f3, Hw3⟩, ⟨%f4, Hw4⟩⟩, Ho, HWt⟩
  ihave HW := (w_join_some c f0 f1 f2 f3 f4 d8) $$ [Hw0 Hw1 Hw2 Hw3 Hw4 HwR]
  · isplitr [HwR]
    · isplitl [Hw0]; · iexact Hw0
      isplitl [Hw1]; · iexact Hw1
      isplitl [Hw2]; · iexact Hw2
      isplitl [Hw3]; · iexact Hw3
      iexact Hw4
    iexact HwR
  ihave HhO := (o_join c (V m c main_arg5)) $$ [Ho HoR]
  · isplitl [Ho]; · iexact Ho
    iexact HoR
  isplitl [HQ HW HQA HQP HT HO Hs7 Hs8 Hg HhO]
  · isplitl [HW HQA HQP HT HO]
    · isplitl [HW]; · iexact HW
      isplitl [HQA]; · iexists _; iexact HQA
      isplitl [HQP]; · iexists _; iexact HQP
      isplitl [HT]; · iexists _; iexact HT
      iexists _; iexact HO
    isplitl [Hg]; · iexact Hg
    isplitl [Hs7 Hs8]
    · isplitl [Hs7]; · iexact Hs7
      iexact Hs8
    isplitl [HQ]; · iexact HQ
    iexact HhO
  isplitl [HWt]; · iexact HWt
  isplitl [H0]; · iapply (back0 m c t); iexact H0
  isplitl [H1]; · iapply (left1 m c t); iexact H1
  isplitl [H2]; · iapply (left2 m c t); iexact H2
  isplitl [H3]; · iapply (left3 m c t); iexact H3
  unfold owns; iexists _; isplitr
  swap; · iexact H4
  ipureintro
  refine (View.read_writes_full (ms4 t).view _ _ _ []).trans ?_
  unfold outAt
  exact congrArg (fun g => outOf c (ms1 t) ((ms1 t).view.rep (iblk m c 1 t)) g (V m c main_arg5)) (latent_end m c d12 t h)

/-- The body at every point. -/
theorem sound_body (c : Dev nD) (t : Fin cfg0.N) :
    bodyPre m c t ⊢ wp frame (wpE (defs₀ (F := F)) Variants.none c none) Set.univ (bodyAt0 t) (fun _ => bodyPost m c t) := by
  have h8 : t.val < 8 := lt_of_lt_of_eq t.isLt N_0
  by_cases h0 : t.val = 0
  · obtain rfl : t = t0_0 := Fin.ext h0
    exact sound0 m c
  by_cases h1 : t.val = 1
  · exact sound1 m c t h1
  by_cases h7 : t.val = 7
  · exact sound7 m c t h7
  exact soundMid m c t (by omega) (by omega)

theorem defs₀_row (t : Fin cfg0.N) :
    defs₀ (F := F) .tc cfg0.body (cfg0.bodyArgs t (cfg0.slots t)) = bodyAt0 t := by
  unfold defs₀; rw [Defs.onTc_tc]

/-- The thread's waits, as the loop states them: every wait is below the body's level. -/
theorem owesAt_eq (c : Dev nD) (n : Fin (cfg0.N + 1)) :
    (dats (F := F) m 0 c).owesAt () n = (iprop(∃ W, owes (c : Thread nD τ) 0 W) : sProp 𝕄) := by
  unfold Dat.owesAt Pipeline.owesWithin
  rw [show (dats (F := F) m 0 c).owed n = 0 from rfl]
  refine Idealize.SL.BI.Entails.antisymm (show (iprop(∃ W, ⌜_⌝ ∗ owes (c : Thread nD τ) 0 W) : sProp 𝕄) ⊢ iprop(∃ W, owes (c : Thread nD τ) 0 W) from ?_)
    (show (iprop(∃ W, owes (c : Thread nD τ) 0 W) : sProp 𝕄) ⊢ iprop(∃ W, ⌜_⌝ ∗ owes (c : Thread nD τ) 0 W) from ?_)
  · iintro ⟨%W, -, H⟩; iexists W; iexact H
  · iintro ⟨%W, H⟩; iexists W; isplitr; · ipureintro; exact fun _ _ => Or.inl trivial
    iexact H

theorem body_obligation (c : Dev nD) : BodyObligation (dats (F := F) m 0 c) (defs₀ (F := F)) Variants.none () Set.univ := fun t => by
  rw [bigSep_W0, bigSep_W0, defs₀_row, owesAt_eq, owesAt_eq]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Entails.of_eq ((PhiRest_eq m c).trans (Phi_zero m c).symm))
    (hout := fun c => Entails.of_eq ((Phi_last m c).trans (PhiRest_eq m c).symm))

/-- THE FRAME: the kernel runs, its arguments end unchanged, every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).2 main_arg3 (Pipeline.mem_restRefs_of main_arg3 (by decide) (by decide))).trans (V_main_arg3 m c),
      ((h.1 c).1 1).trans (((dats m 0 c).arrAt_in 1 rfl _).trans ((A_eq m c 1).trans (V_main_arg4 m c))),
      ((h.1 c).2 main_arg5 (Pipeline.mem_restRefs_of main_arg5 (by decide) (by decide))).trans (V_main_arg5 m c)⟩, h.2⟩) (run_main m ρ)

end Cert.KernelIdeal.Hand

end
-- ==== Proof.Val.Pieces.lean ====
/-
  The queries the first point stores, head by head: each head's absorbed and rotary queries are the same function of the
  head's columns of the two weights.
-/
module

public import proofs.«01_k».proof.Proof.KI.Frame
public import Idealize.ShloMosaic.Lib.WritesUnit

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F] [Named F]

variable (m : (ℓ : Loc nD τ sig) → Buf (Elt F) ℓ)

/-- A head's queries, absorbed into the latent space, from the compressed queries and the head's columns of the weights. -/
def headQA (q : FVec F S8x1536 .f32) (wq : FVec F S1536x192 .f32) (wk : FVec F S512x128 .f32) : FVec F S8x1x512 .f32 :=
  k0_pay33 (k0_pay30 q wq) wk
/-- A head's rotary queries. -/
def headQP (q : FVec F S8x1536 .f32) (wq : FVec F S1536x192 .f32) : FVec F S8x1x64 .f32 :=
  k0_pay34 (k0_pay27 (F := F)) (k0_pay28 (F := F)) (k0_pay31 q wq) (k0_pay32 q wq)

/-- The compressed queries as loaded. -/
def ldQ (c : Dev nD) : FVec F S8x1536 .f32 :=
  k0_pay3 (View.readAt (Elt F) (ms0 t0_0).view (Rect.unit (s := S8x1536) ![0, 0] S8x1536.size inb_S8x1536_S8x1536_0_0).toLoadRect
    ((ms0 t0_0).view.rep (iblk m c 0 t0_0)))
/-- A head's columns of the query weights, read where their copy landed. -/
theorem wq_inb (h : Fin 16) : ∀ a, (![0, 192 * h.val] : Fin 2 → ℕ) a + S1536x192.size a ≤ S1536x3072.size a := by
  intro a; have := h.isLt
  match a with
  | ⟨0, _⟩ => show 0 + 1536 ≤ 1536; omega
  | ⟨1, _⟩ => show 192 * h.val + 192 ≤ 3072; omega
def ldWq (c : Dev nD) (h : Fin 16) : FVec F S1536x192 .f32 :=
  mW.view.readCov (Val := Elt F) [⟨Rect.unit (s := S1536x3072) ![0, 0] S1536x3072.size (by decide), ReadAs.same.apply (View.read (Elt F) hQ.view (V m c main_arg3))⟩]
    (Rect.unit (s := S1536x3072) ![0, 192 * h.val] S1536x192.size (wq_inb h)).toLoadRect
/-- A head's columns of the key projection. -/
theorem wk_inb (h : Fin 16) : ∀ a, (![0, 256 * h.val] : Fin 2 → ℕ) a + S512x128.size a ≤ S512x4096.size a := by
  intro a; have := h.isLt
  match a with
  | ⟨0, _⟩ => show 0 + 512 ≤ 512; omega
  | ⟨1, _⟩ => show 256 * h.val + 128 ≤ 4096; omega
def ldWk (c : Dev nD) (h : Fin 16) : FVec F S512x128 .f32 :=
  View.readAt (Elt F) (ms1 t0_0).view (Rect.unit (s := S512x4096) ![0, 256 * h.val] S512x128.size (wk_inb h)).toLoadRect
    ((ms1 t0_0).view.rep (iblk m c 1 t0_0))

theorem qa_inb (h : Fin 16) : ∀ a, (![0, h.val, 0] : Fin 3 → ℕ) a + S8x1x512.size a ≤ S8x16x512.size a := by
  intro a; have := h.isLt
  match a with
  | ⟨0, _⟩ => show 0 + 8 ≤ 8; omega
  | ⟨1, _⟩ => show h.val + 1 ≤ 16; omega
  | ⟨2, _⟩ => show 0 + 512 ≤ 512; omega
theorem qp_inb (h : Fin 16) : ∀ a, (![0, h.val, 0] : Fin 3 → ℕ) a + S8x1x64.size a ≤ S8x16x64.size a := by
  intro a; have := h.isLt
  match a with
  | ⟨0, _⟩ => show 0 + 8 ≤ 8; omega
  | ⟨1, _⟩ => show h.val + 1 ≤ 16; omega
  | ⟨2, _⟩ => show 0 + 64 ≤ 64; omega

/-! The stores, one per head. -/

/-- The absorbed queries, -/
theorem L0_qa (c : Dev nD) : (L0 m c).1
    = View.tilePieces (Val := Elt F) (s := S8x16x512) (e := .f32) S8x1x512.size (fun h : Fin 16 => ![0, h.val, 0]) qa_inb
        (fun h => headQA (ldQ m c) (ldWq m c h) (ldWk m c h)) 16 le_rfl := rfl
/-- and so the rotary ones, -/
theorem L0_qp (c : Dev nD) : (L0 m c).2.1
    = View.tilePieces (Val := Elt F) (s := S8x16x64) (e := .f32) S8x1x64.size (fun h : Fin 16 => ![0, h.val, 0]) qp_inb
        (fun h => headQP (ldQ m c) (ldWq m c h)) 16 le_rfl := rfl
/-- and the rotary table is the cosines' half and the sines' half. -/
theorem L0_t (c : Dev nD) : (L0 m c).2.2
    = [⟨Rect.unit (s := S4096x64) ![0, 32] S4096x32.size inb_S4096x64_S4096x32_0_32,
        k0_pay25 (F := F) k0_pay4 k0_pay11 k0_pay12 k0_pay16 k0_pay17 k0_pay18⟩,
       ⟨Rect.unit (s := S4096x64) ![0, 0] S4096x32.size inb_S4096x64_S4096x32_0_0,
        k0_pay24 (F := F) k0_pay4 k0_pay11 k0_pay12 k0_pay16 k0_pay17 k0_pay18⟩] := rfl

end Cert.KernelIdeal.Hand

end
-- ==== Proof.Val.Reads.lean ====
/-
  The blocks and the loads at an index of the arguments.
-/
module

public import proofs.«01_k».proof.Proof.Val.Pieces
public import Idealize.ShloMosaic.Lib.Pipeline.ValueKit
public import Idealize.ShloMosaic.Lib.Pointwise
public import Idealize.ShloMosaic.Lib.VecWindow

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F] [Named F]

variable (m : (ℓ : Loc nD τ sig) → Buf (Elt F) ℓ)

theorem idx0 (t : Fin cfg0.N) : win0_0.index t = ![0, 0] := rfl
theorem idx1 (t : Fin cfg0.N) : win0_1.index t = ![0, 0] := rfl
theorem idx2 : ∀ t : Fin cfg0.N, win0_2.index t = ![t.val, 0, 0] := by decide +kernel
theorem idx3 : ∀ t : Fin cfg0.N, win0_3.index t = ![t.val, 0, 0] := by decide +kernel

/-- The compressed queries' block: one row per batch element. -/
theorem iblk0_apply (c : Dev nD) (t : Fin cfg0.N) (b : Fin 8) (r : Fin 1536) :
    iblk m c 0 t (ix2 b r) = m ((c : Thread nD τ).loc main_arg0) (ix3 b 0 r) := by
  blk_simp [iblk, idx0]
  entry_read; pointwise
  blk_ext [idx0]
theorem iblk1_apply (c : Dev nD) (t : Fin cfg0.N) (k : Fin 512) (j : Fin 4096) :
    iblk m c 1 t (ix2 k j) = m ((c : Thread nD τ).loc main_arg4) (ix2 k j) := by
  blk_ext [iblk, V, idx1]
theorem iblk2_apply (c : Dev nD) (t : Fin cfg0.N) (p : Fin 4096) (k : Fin 512) :
    iblk m c 2 t (ix3 0 p k) = m ((c : Thread nD τ).loc main_arg1) (ix3 ⟨t.val, t.isLt⟩ p k) := by
  blk_ext [iblk, V, idx2 t]
theorem iblk3_apply (c : Dev nD) (t : Fin cfg0.N) (p : Fin 4096) (k : Fin 64) :
    iblk m c 3 t (ix3 0 p k) = m ((c : Thread nD τ).loc main_arg2) (ix3 ⟨t.val, t.isLt⟩ p k) := by
  blk_ext [iblk, V, idx3 t]

/-- A load of a box, at an index: what the view reads at the place the box puts it. -/
theorem readAt_apply {sp : Space} {s : Shape} {e : EltTy} (v : View sig .tc sp s e) (f : v.ty.Contents (Elt F)) {off size : Fin s.rank → ℕ}
    (inb : ∀ a, off a + size a ≤ s.size a) (y : (Rect.unit off size inb).shape.Idx) (z : s.Idx) (hz : ∀ a, (z a).val = off a + (y a).val) :
    v.readAt (Elt F) (Rect.unit off size inb).toLoadRect f y = v.read (Elt F) f z :=
  congrArg (v.read (Elt F) f) (funext fun a => Fin.ext (by
    show off a + 1 * (y a).val = (z a).val
    rw [hz]; omega))
theorem readAt_rep_apply {sp : Space} {s : Shape} {e : EltTy} (v : View sig .tc sp s e) (g : s.Idx → Elt F e) {off size : Fin s.rank → ℕ}
    (inb : ∀ a, off a + size a ≤ s.size a) (y : (Rect.unit off size inb).shape.Idx) (z : s.Idx) (hz : ∀ a, (z a).val = off a + (y a).val) :
    v.readAt (Elt F) (Rect.unit off size inb).toLoadRect (v.rep g) y = g z := by
  rw [readAt_apply v _ inb y z hz, View.read_rep]

theorem ldQ_apply (c : Dev nD) (b : Fin 8) (r : Fin 1536) : ldQ m c (ix2 b r) = m ((c : Thread nD τ).loc main_arg0) (ix3 b 0 r) := by
  unfold ldQ
  pointwise [k0_pay3]
  refine (readAt_rep_apply (ms0 t0_0).view _ _ _ (ix2 b r) (Fin.forall_fin_two.mpr ⟨(Nat.zero_add _).symm, (Nat.zero_add _).symm⟩)).trans ?_
  exact iblk0_apply m c t0_0 b r

theorem ldWq_apply (c : Dev nD) (h : Fin 16) (r : Fin 1536) (j : Fin 192) :
    ldWq m c h (ix2 r j) = m ((c : Thread nD τ).loc main_arg3) (ix2 r ⟨192 * h.val + j.val, by omega⟩) := by
  unfold ldWq
  refine (readAt_apply mW.view _ _ _ (ix2 r ⟨192 * h.val + j.val, by omega⟩) (Fin.forall_fin_two.mpr ⟨(Nat.zero_add _).symm, rfl⟩)).trans ?_
  refine (congrFun (View.read_writes_full mW.view _ _ _ _) _).trans ?_
  show V m c main_arg3 _ = _
  entry_read
  rfl

theorem ldWk_apply (c : Dev nD) (h : Fin 16) (k : Fin 512) (d : Fin 128) :
    ldWk m c h (ix2 k d) = m ((c : Thread nD τ).loc main_arg4) (ix2 k ⟨256 * h.val + d.val, by omega⟩) := by
  unfold ldWk
  refine (readAt_rep_apply (ms1 t0_0).view _ _ _ (ix2 k ⟨256 * h.val + d.val, by omega⟩) (Fin.forall_fin_two.mpr ⟨(Nat.zero_add _).symm, rfl⟩)).trans ?_
  exact iblk1_apply m c t0_0 k _

/-! The queries and the table, read. -/

theorem gQA_apply (c : Dev nD) (b : Fin 8) (h : Fin 16) (k : Fin 512) :
    mQA.view.read (Elt F) (gQA m c) (ix3 b h k) = headQA (ldQ m c) (ldWq m c h) (ldWk m c h) (ix3 b 0 k) := by
  unfold gQA
  rw [L0_qa]
  refine View.read_tilePieces mQA.view _ _ _ _ _ _ _ _ h h.isLt (ix3 b 0 k) ?_ 1 ?_
  · intro a
    match a with
    | ⟨0, _⟩ => exact (Nat.zero_add _).symm
    | ⟨1, _⟩ => rfl
    | ⟨2, _⟩ => exact (Nat.zero_add _).symm
  · intro i' hi'
    show h.val < i'.val ∨ i'.val + 1 ≤ h.val
    have : i'.val ≠ h.val := fun e => hi' (Fin.ext e)
    omega
theorem gQP_apply (c : Dev nD) (b : Fin 8) (h : Fin 16) (k : Fin 64) :
    mQP.view.read (Elt F) (gQP m c) (ix3 b h k) = headQP (ldQ m c) (ldWq m c h) (ix3 b 0 k) := by
  unfold gQP
  rw [L0_qp]
  refine View.read_tilePieces mQP.view _ _ _ _ _ _ _ _ h h.isLt (ix3 b 0 k) ?_ 1 ?_
  · intro a
    match a with
    | ⟨0, _⟩ => exact (Nat.zero_add _).symm
    | ⟨1, _⟩ => rfl
    | ⟨2, _⟩ => exact (Nat.zero_add _).symm
  · intro i' hi'
    show h.val < i'.val ∨ i'.val + 1 ≤ h.val
    have : i'.val ≠ h.val := fun e => hi' (Fin.ext e)
    omega
theorem gT_cos (c : Dev nD) (p : Fin 4096) (i : Fin 32) :
    mT.view.read (Elt F) (gT m c) (ix2 p ⟨i.val, by omega⟩) = k0_pay24 (F := F) k0_pay4 k0_pay11 k0_pay12 k0_pay16 k0_pay17 k0_pay18 (ix2 p i) := by
  unfold gT
  rw [L0_t]
  refine (View.read_writes_cons_unit_of_not_mem mT.view _ _ _ _ _ rfl 1 (Or.inl ?_)).trans ?_
  · exact i.isLt
  refine View.read_writes_cons_unit_of_mem mT.view _ _ _ _ _ (ix2 p i) rfl (Fin.forall_fin_two.mpr ⟨(Nat.zero_add _).symm, (Nat.zero_add _).symm⟩)
theorem gT_sin (c : Dev nD) (p : Fin 4096) (i : Fin 32) :
    mT.view.read (Elt F) (gT m c) (ix2 p ⟨32 + i.val, by omega⟩) = k0_pay25 (F := F) k0_pay4 k0_pay11 k0_pay12 k0_pay16 k0_pay17 k0_pay18 (ix2 p i) := by
  unfold gT
  rw [L0_t]
  refine View.read_writes_cons_unit_of_mem mT.view _ _ _ _ _ (ix2 p i) rfl (Fin.forall_fin_two.mpr ⟨(Nat.zero_add _).symm, rfl⟩)

/-- A load of rows of the output projection's weights where a copy left them. -/
theorem landed_apply (c : Dev nD) {off size off' size' : Fin S1536x3072.rank → ℕ} (inb : ∀ a, off a + size a ≤ S1536x3072.size a)
    (inb' : ∀ a, off' a + size' a ≤ S1536x3072.size a)
    (Ms : Memref sig .tc .hbm (Rect.unit off' size' inb').shape .f32) (fo : Cont (F := F) c Ms)
    (y : (Rect.unit off size inb).shape.Idx) (x : (Rect.unit off' size' inb').shape.Idx) (hx : ∀ a, off a + (y a).val = off' a + (x a).val) :
    View.readAt (Elt F) mW.view (Rect.unit off size inb).toLoadRect (landed c (mW.slice (Rect.unit off' size' inb') (fun _ => rfl)) Ms fo) y
      = View.read (Elt F) Ms.view fo x := by
  have hz : ∀ a, ((Rect.unit off' size' inb').emb x a).val = off a + (y a).val := fun a => by
    show off' a + 1 * (x a).val = _
    rw [hx]; omega
  refine (readAt_apply mW.view _ inb y _ hz).trans ?_
  show (mW.slice (Rect.unit off' size' inb') (fun _ => rfl)).view.read (Elt F) _ x = _
  exact congrFun (View.read_writes_whole (mW.slice (Rect.unit off' size' inb') (fun _ => rfl)).view _ _) x

end Cert.KernelIdeal.Hand

end
-- ==== Proof.Val.Table.lean ====
/-
  The rotary table in closed form: row `p` holds the cosines and the sines of `p` times the frequencies. The table is
  built by doubling, the angles' addition formulas giving the upper half from the lower.
-/
module

public import proofs.«01_k».proof.Proof.KI.Names
public import Idealize.ShloMosaic.Lib.Pointwise
public import Idealize.ShloMosaic.Lib.StableHlo.Predicate

@[expose] public section

set_option maxRecDepth 16384

noncomputable section

namespace Cert.KernelIdeal.Hand

open Idealize.ShloMosaic Idealize.ShloMosaic.TcCoe
open Cert.KernelIdeal Cert.KernelIdeal.Gen

/-- The `i`-th rotary frequency. -/
def freq (i : ℕ) : ℝ := Real.exp ((i : ℝ) * (-Real.log 10000 / 32))

/-! ## Literals -/

theorem ofBits_10000 : Ideal.ofBits .f32 0x461C4000#32 = ((10000 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_4095 : Ideal.ofBits .f32 0x457FF000#32 = ((4095 : ℝ) : EReal) := by
  simp [Ideal.ofBits, Ideal.ieee, -EReal.coe_mul]; norm_num
theorem sitofp_nat (n : ℕ) (h : n < 2 ^ 31) : (FloatOps.sitofp .f32 (BitVec.ofNat 32 n) : Ideal .f32) = ((n : ℝ) : EReal) := by
  show (((BitVec.ofNat 32 n).toInt : ℝ) : EReal) = _
  rw [Idealize.ShloMosaic.StableHlo.Predicate.toInt_ofNat_small n h]; rfl

/-! ## Frequencies and angles -/

theorem slope_eq : Ideal.div (0 - Scalar.log (Ideal.ofBits .f32 0x461C4000#32 : Ideal .f32)) (Ideal.ofBits .f32 0x42000000#32)
    = ((-Real.log 10000 / 32 : ℝ) : EReal) := by
  rw [ofBits_10000, ofBits_32]
  have : (Scalar.log ((10000 : ℝ) : EReal) : Ideal .f32) = ((Real.log 10000 : ℝ) : EReal) :=
    (Ideal.log_coe _).trans (if_neg (by norm_num))
  rw [this, Ideal.div_coe (by norm_num), ← EReal.coe_zero, ← EReal.coe_sub, ← EReal.coe_mul]
  congr 1; ring

theorem pay4_apply (r : Fin 512) (i : Fin 32) : k0_pay4 (F := Ideal) (ix2 r i) = ((freq i.val : ℝ) : EReal) := by
  pointwise [k0_pay4]
  rw [slope_eq, sitofp_nat _ (by have := i.isLt; omega), ← EReal.coe_mul]
  exact Ideal.exp_coe _
theorem pay5_apply (r : Fin 512) (i : Fin 32) : k0_pay5 (F := Ideal) (ix2 r i) = ((r.val * freq i.val : ℝ) : EReal) := by
  pointwise [k0_pay5]
  rw [pay4_apply, sitofp_nat _ (by have := r.isLt; omega), ← EReal.coe_mul]
/-- The query's angles, at position 4095. -/
theorem pay26_apply (i : Fin 32) : k0_pay26 (F := Ideal) (ix2 0 i) = ((4095 * freq i.val : ℝ) : EReal) := by
  pointwise [k0_pay26]
  rw [slope_eq, sitofp_nat _ (by have := i.isLt; omega), ← EReal.coe_mul]
  erw [Ideal.exp_coe]
  rw [ofBits_4095, ← EReal.coe_mul]; rfl
theorem pay27_apply (i : Fin 32) : k0_pay27 (F := Ideal) (ix2 0 i) = ((Real.cos (4095 * freq i.val) : ℝ) : EReal) := by
  pointwise [k0_pay27]
  rw [pay26_apply]; rfl
theorem pay28_apply (i : Fin 32) : k0_pay28 (F := Ideal) (ix2 0 i) = ((Real.sin (4095 * freq i.val) : ℝ) : EReal) := by
  pointwise [k0_pay28]
  rw [pay26_apply]; rfl

/-! ## The doublings -/

theorem cos_step (p n : ℕ) (h : ¬ p < n) (w : ℝ) :
    ((Real.cos (((p - n : ℕ) : ℝ) * w) : ℝ) : EReal) * ((Real.cos ((n : ℝ) * w) : ℝ) : EReal)
      - ((Real.sin (((p - n : ℕ) : ℝ) * w) : ℝ) : EReal) * ((Real.sin ((n : ℝ) * w) : ℝ) : EReal) = ((Real.cos ((p : ℝ) * w) : ℝ) : EReal) := by
  rw [← EReal.coe_mul, ← EReal.coe_mul, ← EReal.coe_sub, ← Real.cos_add, ← add_mul, ← Nat.cast_add, Nat.sub_add_cancel (not_lt.1 h)]
theorem sin_step (p n : ℕ) (h : ¬ p < n) (w : ℝ) :
    ((Real.sin (((p - n : ℕ) : ℝ) * w) : ℝ) : EReal) * ((Real.cos ((n : ℝ) * w) : ℝ) : EReal)
      + ((Real.cos (((p - n : ℕ) : ℝ) * w) : ℝ) : EReal) * ((Real.sin ((n : ℝ) * w) : ℝ) : EReal) = ((Real.sin ((p : ℝ) * w) : ℝ) : EReal) := by
  rw [← EReal.coe_mul, ← EReal.coe_mul, ← EReal.coe_add, ← Real.sin_add, ← add_mul, ← Nat.cast_add, Nat.sub_add_cancel (not_lt.1 h)]

theorem pay6_apply (r : Fin 512) (i : Fin 32) : k0_pay6 (F := Ideal) (ix2 r i) = ((Real.cos (r.val * freq i.val) : ℝ) : EReal) := by
  pointwise [k0_pay6]
  rw [pay5_apply]; rfl
theorem pay7_apply (r : Fin 512) (i : Fin 32) : k0_pay7 (F := Ideal) (ix2 r i) = ((Real.sin (r.val * freq i.val) : ℝ) : EReal) := by
  pointwise [k0_pay7]
  rw [pay5_apply]; rfl
theorem pay8_apply (i : Fin 32) : k0_pay8 (F := Ideal) (ix2 0 i) = ((((512 : ℕ) : ℝ) * freq i.val : ℝ) : EReal) := by
  pointwise [k0_pay8]
  rw [ofBits_512, pay4_apply, ← EReal.coe_mul]; norm_num
theorem pay9_apply (i : Fin 32) : k0_pay9 (F := Ideal) (ix2 0 i) = ((Real.cos (((512 : ℕ) : ℝ) * freq i.val) : ℝ) : EReal) := by
  pointwise [k0_pay9]
  rw [pay8_apply]; rfl
theorem pay10_apply (i : Fin 32) : k0_pay10 (F := Ideal) (ix2 0 i) = ((Real.sin (((512 : ℕ) : ℝ) * freq i.val) : ℝ) : EReal) := by
  pointwise [k0_pay10]
  rw [pay8_apply]; rfl
theorem pay11_apply (p : Fin 1024) (i : Fin 32) : k0_pay11 (F := Ideal) (ix2 p i) = ((Real.cos (p.val * freq i.val) : ℝ) : EReal) := by
  pointwise [k0_pay11]
  split
  · exact pay6_apply _ _
  · rename_i h; rw [pay6_apply, pay9_apply, pay7_apply, pay10_apply]; exact cos_step _ _ h _
theorem pay12_apply (p : Fin 1024) (i : Fin 32) : k0_pay12 (F := Ideal) (ix2 p i) = ((Real.sin (p.val * freq i.val) : ℝ) : EReal) := by
  pointwise [k0_pay12]
  split
  · exact pay7_apply _ _
  · rename_i h; rw [pay6_apply, pay9_apply, pay7_apply, pay10_apply]; exact sin_step _ _ h _

theorem pay13_apply (i : Fin 32) : k0_pay13 (F := Ideal) (ix2 0 i) = ((((1024 : ℕ) : ℝ) * freq i.val : ℝ) : EReal) := by
  pointwise [k0_pay13]
  rw [ofBits_1024, pay4_apply, ← EReal.coe_mul]; norm_num
theorem pay14_apply (i : Fin 32) : k0_pay14 (F := Ideal) (ix2 0 i) = ((Real.cos (((1024 : ℕ) : ℝ) * freq i.val) : ℝ) : EReal) := by
  pointwise [k0_pay14]
  rw [pay13_apply]; rfl
theorem pay15_apply (i : Fin 32) : k0_pay15 (F := Ideal) (ix2 0 i) = ((Real.sin (((1024 : ℕ) : ℝ) * freq i.val) : ℝ) : EReal) := by
  pointwise [k0_pay15]
  rw [pay13_apply]; rfl
/-- The cosines' table of 2048 rows, -/
theorem pay19_apply (p : Fin 2048) (i : Fin 32) :
    k0_pay19 (F := Ideal) k0_pay11 k0_pay16 (ix2 p i) = ((Real.cos (p.val * freq i.val) : ℝ) : EReal) := by
  pointwise [k0_pay19, k0_pay16]
  split
  · exact pay11_apply _ _
  · rename_i h; rw [pay11_apply, pay12_apply, pay14_apply, pay15_apply]; exact cos_step _ _ h _
/-- and the sines'. -/
theorem pay20_apply (p : Fin 2048) (i : Fin 32) :
    k0_pay20 (F := Ideal) k0_pay11 k0_pay12 k0_pay17 k0_pay18 (ix2 p i) = ((Real.sin (p.val * freq i.val) : ℝ) : EReal) := by
  pointwise [k0_pay20, k0_pay17, k0_pay18]
  split
  · exact pay12_apply _ _
  · rename_i h; rw [pay11_apply, pay12_apply, pay14_apply, pay15_apply]; exact sin_step _ _ h _

theorem pay21_apply (i : Fin 32) : k0_pay21 (F := Ideal) k0_pay4 (ix2 0 i) = ((((2048 : ℕ) : ℝ) * freq i.val : ℝ) : EReal) := by
  pointwise [k0_pay21]
  rw [ofBits_2048, pay4_apply, ← EReal.coe_mul]; norm_num
theorem pay22_apply (i : Fin 32) : k0_pay22 (F := Ideal) k0_pay4 (ix2 0 i) = ((Real.cos (((2048 : ℕ) : ℝ) * freq i.val) : ℝ) : EReal) := by
  pointwise [k0_pay22]
  rw [pay21_apply]; rfl
theorem pay23_apply (i : Fin 32) : k0_pay23 (F := Ideal) k0_pay4 (ix2 0 i) = ((Real.sin (((2048 : ℕ) : ℝ) * freq i.val) : ℝ) : EReal) := by
  pointwise [k0_pay23]
  rw [pay21_apply]; rfl
/-- The whole table: cosines, -/
theorem pay24_apply (p : Fin 4096) (i : Fin 32) :
    k0_pay24 (F := Ideal) k0_pay4 k0_pay11 k0_pay12 k0_pay16 k0_pay17 k0_pay18 (ix2 p i) = ((Real.cos (p.val * freq i.val) : ℝ) : EReal) := by
  pointwise [k0_pay24]
  split
  · exact pay19_apply _ _
  · rename_i h; rw [pay19_apply, pay20_apply, pay22_apply, pay23_apply]; exact cos_step _ _ h _
/-- sines. -/
theorem pay25_apply (p : Fin 4096) (i : Fin 32) :
    k0_pay25 (F := Ideal) k0_pay4 k0_pay11 k0_pay12 k0_pay16 k0_pay17 k0_pay18 (ix2 p i) = ((Real.sin (p.val * freq i.val) : ℝ) : EReal) := by
  pointwise [k0_pay25]
  split
  · exact pay20_apply _ _
  · rename_i h; rw [pay19_apply, pay20_apply, pay22_apply, pay23_apply]; exact sin_step _ _ h _

end Cert.KernelIdeal.Hand

end
-- ==== Proof.Val.Spec.lean ====
/-
  The attention over the reals: what both programs compute when the compressed queries, the cache, the rotary keys and the
  two projections are finite. The output projection's weights may be infinite, so the last sum is over the extended reals.
-/
module

public import proofs.«01_k».proof.Proof.Val.Table

@[expose] public section

noncomputable section

namespace Cert.Attn

open Cert.KernelIdeal.Hand (freq)

/-- A sum of real numbers, among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of real numbers, at least one, is one of them. -/
theorem coe_max {n : ℕ} (hn : 0 < n) (f : Fin n → ℝ) :
    ∃ r : ℝ, Finset.univ.fold max (⊥ : EReal) (fun i => ((f i : ℝ) : EReal)) = r := by
  haveI : Nonempty (Fin n) := ⟨⟨0, hn⟩⟩
  obtain ⟨i, -, hi⟩ := Finset.exists_max_image (Finset.univ : Finset (Fin n)) f Finset.univ_nonempty
  refine ⟨f i, le_antisymm ?_ ?_⟩
  · exact (Finset.fold_max_le _).mpr ⟨bot_le, fun x hx => EReal.coe_le_coe_iff.mpr (hi x hx)⟩
  · exact (Finset.le_fold_max _).mpr (Or.inr ⟨i, Finset.mem_univ _, le_rfl⟩)

/-- The finite arguments. -/
structure Args where
  q : Fin 8 → Fin 1536 → ℝ
  kv : Fin 8 → Fin 4096 → Fin 512 → ℝ
  kp : Fin 8 → Fin 4096 → Fin 64 → ℝ
  wq : Fin 1536 → Fin 3072 → ℝ
  wk : Fin 512 → Fin 4096 → ℝ

variable (A : Args)

/-- The scale. -/
def scl : ℝ := (Real.sqrt 192)⁻¹
/-- A head's query, 128 unrotated numbers and 64 to rotate; -/
def qf (b : Fin 8) (h : Fin 16) (j : Fin 192) : ℝ := ∑ r : Fin 1536, A.q b r * A.wq r ⟨192 * h.val + j.val, by omega⟩
def qx (b : Fin 8) (h : Fin 16) (i : Fin 32) : ℝ := qf A b h ⟨128 + i.val, by omega⟩
def qy (b : Fin 8) (h : Fin 16) (i : Fin 32) : ℝ := qf A b h ⟨160 + i.val, by omega⟩
/-- rotated to the last position. -/
def q1 (b : Fin 8) (h : Fin 16) (i : Fin 32) : ℝ := qx A b h i * Real.cos (4095 * freq i.val) - qy A b h i * Real.sin (4095 * freq i.val)
def q2 (b : Fin 8) (h : Fin 16) (i : Fin 32) : ℝ := qy A b h i * Real.cos (4095 * freq i.val) + qx A b h i * Real.sin (4095 * freq i.val)
/-- The rotary keys, rotated to their positions. -/
def kx (b : Fin 8) (t : Fin 4096) (i : Fin 32) : ℝ := A.kp b t ⟨i.val, by omega⟩
def ky (b : Fin 8) (t : Fin 4096) (i : Fin 32) : ℝ := A.kp b t ⟨32 + i.val, by omega⟩
def k1 (b : Fin 8) (t : Fin 4096) (i : Fin 32) : ℝ := kx A b t i * Real.cos (t.val * freq i.val) - ky A b t i * Real.sin (t.val * freq i.val)
def k2 (b : Fin 8) (t : Fin 4096) (i : Fin 32) : ℝ := ky A b t i * Real.cos (t.val * freq i.val) + kx A b t i * Real.sin (t.val * freq i.val)
/-- A head's columns of the key and value projection: 128 for keys, 128 for values. -/
def wkh (h : Fin 16) (k : Fin 512) (d : Fin 128) : ℝ := A.wk k ⟨256 * h.val + d.val, by omega⟩
def wvh (h : Fin 16) (k : Fin 512) (d : Fin 128) : ℝ := A.wk k ⟨256 * h.val + 128 + d.val, by omega⟩
/-- A head's unrotated keys and its values. -/
def kn (b : Fin 8) (h : Fin 16) (t : Fin 4096) (d : Fin 128) : ℝ := ∑ k : Fin 512, A.kv b t k * wkh A h k d
def vn (b : Fin 8) (h : Fin 16) (t : Fin 4096) (d : Fin 128) : ℝ := ∑ k : Fin 512, A.kv b t k * wvh A h k d
/-- The scores, scaled, -/
def rot (b : Fin 8) (h : Fin 16) (t : Fin 4096) : ℝ := (∑ i : Fin 32, q1 A b h i * k1 A b t i) + ∑ i : Fin 32, q2 A b h i * k2 A b t i
def sc (b : Fin 8) (h : Fin 16) (t : Fin 4096) : ℝ :=
  ((∑ d : Fin 128, qf A b h ⟨d.val, by omega⟩ * kn A b h t d) + rot A b h t) * scl
/-- their maximum, -/
def mx (b : Fin 8) (h : Fin 16) : ℝ := (Finset.univ.fold max (⊥ : EReal) (fun t => ((sc A b h t : ℝ) : EReal))).toReal
theorem mx_eq (b : Fin 8) (h : Fin 16) : Finset.univ.fold max (⊥ : EReal) (fun t => ((sc A b h t : ℝ) : EReal)) = ((mx A b h : ℝ) : EReal) := by
  obtain ⟨r, hr⟩ := coe_max (by decide) (sc A b h)
  unfold mx
  rw [hr, EReal.toReal_coe]
/-- the weights before and after they are divided by their sum. -/
def p (b : Fin 8) (h : Fin 16) (t : Fin 4096) : ℝ := Real.exp (sc A b h t - mx A b h)
def l (b : Fin 8) (h : Fin 16) : ℝ := ∑ t : Fin 4096, p A b h t
theorem l_pos (b : Fin 8) (h : Fin 16) : 0 < l A b h :=
  Finset.sum_pos (fun t _ => Real.exp_pos _) ⟨⟨0, by decide⟩, Finset.mem_univ _⟩
theorem l_ne (b : Fin 8) (h : Fin 16) : l A b h ≠ 0 := (l_pos A b h).ne'
/-- A head's output, -/
def o (b : Fin 8) (h : Fin 16) (d : Fin 128) : ℝ := ∑ t : Fin 4096, vn A b h t d * (p A b h t * (1 / l A b h))
/-- and the result, by the output projection. -/
def out (W : Fin 2048 → Fin 2048 → EReal) (b : Fin 8) (j : Fin 2048) : EReal :=
  ∑ h : Fin 16, ∑ d : Fin 128, ((o A b h d : ℝ) : EReal) * W ⟨128 * h.val + d.val, by omega⟩ j

/-! ## The absorbed forms -/

/-- The query taken into the latent space, scaled. -/
def qa (b : Fin 8) (h : Fin 16) (k : Fin 512) : ℝ := (∑ d : Fin 128, qf A b h ⟨d.val, by omega⟩ * wkh A h k d) * scl
theorem sc_eq (b : Fin 8) (h : Fin 16) (t : Fin 4096) :
    (∑ k : Fin 512, qa A b h k * A.kv b t k) + ((∑ i : Fin 32, q1 A b h i * scl * k1 A b t i) + ∑ i : Fin 32, q2 A b h i * scl * k2 A b t i)
      = sc A b h t := by
  unfold sc rot qa kn
  rw [add_mul, add_mul]
  congr 1
  · simp only [Finset.mul_sum, Finset.sum_mul]
    rw [Finset.sum_comm]
    exact Finset.sum_congr rfl fun d _ => Finset.sum_congr rfl fun k _ => by ring
  · simp only [Finset.sum_mul]
    congr 1 <;> exact Finset.sum_congr rfl fun i _ => by ring
/-- The latent output. -/
def ol (b : Fin 8) (h : Fin 16) (k : Fin 512) : ℝ := (∑ t : Fin 4096, p A b h t * A.kv b t k) * (1 / l A b h)
theorem o_eq (b : Fin 8) (h : Fin 16) (d : Fin 128) : ∑ k : Fin 512, ol A b h k * wvh A h k d = o A b h d := by
  unfold ol o vn
  simp only [Finset.mul_sum, Finset.sum_mul]
  rw [Finset.sum_comm]
  exact Finset.sum_congr rfl fun t _ => Finset.sum_congr rfl fun k _ => by ring

end Cert.Attn

end
-- ==== Proof.Val.Attn.lean ====
/-
  The kernel's queries, scores and latent outputs, over the reals.
-/
module

public import proofs.«01_k».proof.Proof.Val.Reads
public import proofs.«01_k».proof.Proof.Val.Spec

@[expose] public section

set_option maxRecDepth 16384

noncomputable section

namespace Cert.KernelIdeal.Hand

open Idealize.ShloMosaic Idealize.ShloMosaic.TcCoe
open Cert.KernelIdeal Cert.KernelIdeal.Gen
open Cert.Attn (Args qf qx qy q1 q2 kx ky k1 k2 wkh wvh sc mx p l o qa ol scl coe_sum)

variable (m : (ℓ : Loc nD τ sig) → Buf (Elt Ideal) ℓ)

/-- The arguments the claim's condition holds finite are those real numbers. -/
structure Holds (A : Args) (c : Dev nD) : Prop where
  q : ∀ b r, m ((c : Thread nD τ).loc main_arg0) (ix3 b 0 r) = ((A.q b r : ℝ) : EReal)
  kv : ∀ b t k, m ((c : Thread nD τ).loc main_arg1) (ix3 b t k) = ((A.kv b t k : ℝ) : EReal)
  kp : ∀ b t k, m ((c : Thread nD τ).loc main_arg2) (ix3 b t k) = ((A.kp b t k : ℝ) : EReal)
  wq : ∀ r j, m ((c : Thread nD τ).loc main_arg3) (ix2 r j) = ((A.wq r j : ℝ) : EReal)
  wk : ∀ k j, m ((c : Thread nD τ).loc main_arg4) (ix2 k j) = ((A.wk k j : ℝ) : EReal)

theorem named_s : Named.named (F := Ideal) κ "s" (φ := .f32) 1033096506#32 = ((scl : ℝ) : EReal) :=
  IdealRules.named_const.ideal_named_scalar κ "s" _ _ rfl

theorem ofBits_ninf : Ideal.ofBits .f32 0xFF800000#32 = ⊥ := by
  simp [Ideal.ofBits, Ideal.ieee]

variable {m} {A : Args} {c : Dev nD} (H : Holds m A c)
include H

theorem ldQ_real (b : Fin 8) (r : Fin 1536) : ldQ m c (ix2 b r) = ((A.q b r : ℝ) : EReal) := (ldQ_apply m c b r).trans (H.q b r)
theorem ldWq_real (h : Fin 16) (r : Fin 1536) (j : Fin 192) :
    ldWq m c h (ix2 r j) = ((A.wq r ⟨192 * h.val + j.val, by omega⟩ : ℝ) : EReal) := (ldWq_apply m c h r j).trans (H.wq _ _)
theorem ldWk_real (h : Fin 16) (k : Fin 512) (d : Fin 128) :
    ldWk m c h (ix2 k d) = ((wkh A h k d : ℝ) : EReal) := (ldWk_apply m c h k d).trans (H.wk _ _)

/-- A head's query before the two parts separate. -/
theorem full_real (b : Fin 8) (h : Fin 16) (j : Fin 192) :
    k0_pay29 (ldQ m c) (ldWq m c h) (ix2 b j) = ((qf A b h j : ℝ) : EReal) := by
  pointwise [k0_pay29]
  simp only [ldQ_real H, ldWq_real H, ← EReal.coe_mul, coe_sum]
  rfl

theorem headQA_real (b : Fin 8) (h : Fin 16) (k : Fin 512) :
    headQA (ldQ m c) (ldWq m c h) (ldWk m c h) (ix3 b 0 k) = ((qa A b h k : ℝ) : EReal) := by
  unfold headQA
  pointwise [k0_pay33, k0_pay30]
  simp only [full_real H, ldWk_real H, named_s, ← EReal.coe_mul, coe_sum]
  rfl

theorem headQP_real1 (b : Fin 8) (h : Fin 16) (i : Fin 32) :
    headQP (ldQ m c) (ldWq m c h) (ix3 b 0 ⟨i.val, by omega⟩) = ((q1 A b h i * scl : ℝ) : EReal) := by
  unfold headQP
  pointwise [k0_pay34, k0_pay31, k0_pay32]
  simp only [full_real H, pay27_apply, pay28_apply, named_s, ← EReal.coe_mul, ← EReal.coe_sub]
  rfl
theorem headQP_real2 (b : Fin 8) (h : Fin 16) (i : Fin 32) :
    headQP (ldQ m c) (ldWq m c h) (ix3 b 0 ⟨32 + i.val, by omega⟩) = ((q2 A b h i * scl : ℝ) : EReal) := by
  unfold headQP
  pointwise [k0_pay34, k0_pay31, k0_pay32]
  simp only [full_real H, pay27_apply, pay28_apply, named_s, ← EReal.coe_mul, ← EReal.coe_add]
  rfl

/-! The loads of a point. -/

omit H in
theorem tsize (t : Fin grid0.N) : t.val < 8 := t.isLt
omit H in
theorem off1 : ∀ t : Fin grid0.N, k0_off1 (grid0.coords t) = ![t.val, 0, 0] := by decide +kernel
omit H in
theorem off2 : ∀ t : Fin grid0.N, k0_off2 (grid0.coords t) = ![t.val, 0, 0] := by decide +kernel

theorem ld5_real (t : Fin grid0.N) (inb) (p : Fin 4096) (k : Fin 512) :
    View.readAt (Elt Ideal) (ms2 t).view (Rect.unit (s := S1x4096x512) ![0, 0, 0] S1x4096x512.size inb).toLoadRect ((ms2 t).view.rep (iblk m c 2 t)) (ix3 0 p k)
      = ((A.kv ⟨t.val, tsize t⟩ p k : ℝ) : EReal) := by
  refine (congrFun (View.readAt_rep_full (ms2 t).view (iblk m c 2 t) inb) (ix3 0 p k)).trans ?_
  exact (iblk2_apply m c t p k).trans (H.kv _ _ _)
theorem ld6_real (t : Fin grid0.N) (inb) (p : Fin 4096) (k : Fin 64) :
    View.readAt (Elt Ideal) (ms3 t).view (Rect.unit (s := S1x4096x64) ![0, 0, 0] S1x4096x64.size inb).toLoadRect ((ms3 t).view.rep (iblk m c 3 t)) (ix3 0 p k)
      = ((A.kp ⟨t.val, tsize t⟩ p k : ℝ) : EReal) := by
  refine (congrFun (View.readAt_rep_full (ms3 t).view (iblk m c 3 t) inb) (ix3 0 p k)).trans ?_
  exact (iblk3_apply m c t p k).trans (H.kp _ _ _)
theorem ldCos_real (inb) (p : Fin 4096) (i : Fin 32) :
    View.readAt (Elt Ideal) mT.view (Rect.unit (s := S4096x64) ![0, 0] S4096x32.size inb).toLoadRect (gT m c) (ix2 p i)
      = ((Real.cos (p.val * freq i.val) : ℝ) : EReal) := by
  refine (readAt_apply mT.view _ inb _ (ix2 p ⟨i.val, by omega⟩) (Fin.forall_fin_two.mpr ⟨(Nat.zero_add _).symm, (Nat.zero_add _).symm⟩)).trans ?_
  exact (gT_cos m c p i).trans (pay24_apply p i)
theorem ldSin_real (inb) (p : Fin 4096) (i : Fin 32) :
    View.readAt (Elt Ideal) mT.view (Rect.unit (s := S4096x64) ![0, 32] S4096x32.size inb).toLoadRect (gT m c) (ix2 p i)
      = ((Real.sin (p.val * freq i.val) : ℝ) : EReal) := by
  refine (readAt_apply mT.view _ inb _ (ix2 p ⟨32 + i.val, by omega⟩) (Fin.forall_fin_two.mpr ⟨(Nat.zero_add _).symm, rfl⟩)).trans ?_
  exact (gT_sin m c p i).trans (pay25_apply p i)
theorem ldQA_real (t : Fin grid0.N) (inb) (h : Fin 16) (k : Fin 512) :
    View.readAt (Elt Ideal) mQA.view (Rect.unit (s := S8x16x512) (k0_off1 (grid0.coords t)) S1x16x512.size inb).toLoadRect (gQA m c) (ix3 0 h k)
      = ((qa A ⟨t.val, tsize t⟩ h k : ℝ) : EReal) := by
  refine (readAt_apply mQA.view _ inb _ (ix3 ⟨t.val, tsize t⟩ h k) ?_).trans ?_
  · have e := off1 t
    intro a
    rw [congrFun e a]
    match a with
    | ⟨0, _⟩ => rfl
    | ⟨1, _⟩ => exact (Nat.zero_add _).symm
    | ⟨2, _⟩ => exact (Nat.zero_add _).symm
  exact (gQA_apply m c _ h k).trans (headQA_real H _ h k)
theorem ldQP_read (t : Fin grid0.N) (inb) (h : Fin 16) (j : Fin 64) :
    View.readAt (Elt Ideal) mQP.view (Rect.unit (s := S8x16x64) (k0_off2 (grid0.coords t)) S1x16x64.size inb).toLoadRect (gQP m c) (ix3 0 h j)
      = headQP (ldQ m c) (ldWq m c h) (ix3 ⟨t.val, tsize t⟩ 0 j) := by
  refine (readAt_apply mQP.view _ inb _ (ix3 ⟨t.val, tsize t⟩ h j) ?_).trans ?_
  · have e := off2 t
    intro a
    rw [congrFun e a]
    match a with
    | ⟨0, _⟩ => rfl
    | ⟨1, _⟩ => exact (Nat.zero_add _).symm
    | ⟨2, _⟩ => exact (Nat.zero_add _).symm
  exact gQP_apply m c _ h j
theorem ldQP_real1 (t : Fin grid0.N) (inb) (h : Fin 16) (i : Fin 32) :
    View.readAt (Elt Ideal) mQP.view (Rect.unit (s := S8x16x64) (k0_off2 (grid0.coords t)) S1x16x64.size inb).toLoadRect (gQP m c) (ix3 0 h ⟨i.val, by omega⟩)
      = ((q1 A ⟨t.val, tsize t⟩ h i * scl : ℝ) : EReal) := (ldQP_read H t inb h _).trans (headQP_real1 H _ h i)
theorem ldQP_real2 (t : Fin grid0.N) (inb) (h : Fin 16) (i : Fin 32) :
    View.readAt (Elt Ideal) mQP.view (Rect.unit (s := S8x16x64) (k0_off2 (grid0.coords t)) S1x16x64.size inb).toLoadRect (gQP m c) (ix3 0 h ⟨32 + i.val, by omega⟩)
      = ((q2 A ⟨t.val, tsize t⟩ h i * scl : ℝ) : EReal) := (ldQP_read H t inb h _).trans (headQP_real2 H _ h i)

omit H in
/-- A point's scores, over the reals, from what it loads. -/
theorem pay115_real (b : Fin 8) (x5 : Vec Ideal S1x4096x512 .f32) (x6 : Vec Ideal S1x4096x64 .f32) (tc ts : Vec Ideal S4096x32 .bf16)
    (xa : Vec Ideal S1x16x512 .f32) (xp : Vec Ideal S1x16x64 .f32)
    (h5 : ∀ t k, x5 (ix3 0 t k) = ((A.kv b t k : ℝ) : EReal)) (h6 : ∀ t k, x6 (ix3 0 t k) = ((A.kp b t k : ℝ) : EReal))
    (hc : ∀ (t : Fin 4096) (i : Fin 32), tc (ix2 t i) = ((Real.cos (t.val * freq i.val) : ℝ) : EReal))
    (hs : ∀ (t : Fin 4096) (i : Fin 32), ts (ix2 t i) = ((Real.sin (t.val * freq i.val) : ℝ) : EReal))
    (ha : ∀ h k, xa (ix3 0 h k) = ((qa A b h k : ℝ) : EReal))
    (h1 : ∀ h (i : Fin 32), xp (ix3 0 h ⟨i.val, by omega⟩) = ((q1 A b h i * scl : ℝ) : EReal))
    (h2 : ∀ h (i : Fin 32), xp (ix3 0 h ⟨32 + i.val, by omega⟩) = ((q2 A b h i * scl : ℝ) : EReal)) (h : Fin 16) (t : Fin 4096) :
    k0_pay115 x5 x6 tc ts xa xp (ix2 h t) = ((sc A b h t : ℝ) : EReal) := by
  pointwise [k0_pay115, k0_pay114]
  simp only [h5, h6, hc, hs, ha, h1, h2, ← EReal.coe_mul, ← EReal.coe_add, ← EReal.coe_sub, coe_sum]
  exact congrArg _ (Cert.Attn.sc_eq A b h t)

omit H in
/-- The weighted latent rows, from the scores. -/
theorem pay1_real (b : Fin 8) (x : FVec Ideal S4096x512 .f32) (s : FVec Ideal S16x4096 .f32)
    (hx : ∀ t k, x (ix2 t k) = ((A.kv b t k : ℝ) : EReal)) (hs : ∀ h t, s (ix2 h t) = ((sc A b h t : ℝ) : EReal)) (h : Fin 16) (k : Fin 512) :
    k0_pay1 x s (ix3 0 h k) = ((ol A b h k : ℝ) : EReal) := by
  pointwise [k0_pay1]
  simp only [hx, hs, ofBits_ninf, Cert.Attn.mx_eq, ← EReal.coe_sub, Ideal.exp_coe, ← EReal.coe_mul, coe_sum]
  refine (Ideal.div_coe (Cert.Attn.l_ne A b h) _).trans ?_
  rw [← EReal.coe_mul]
  rfl

/-- What a point writes: -/
theorem rowAt_real (t : Fin grid0.N) (h : Fin 16) (k : Fin 512) :
    rowAt m c t (ix3 0 h k) = ((ol A ⟨t.val, tsize t⟩ h k : ℝ) : EReal) := by
  unfold rowAt rowOf
  refine pay1_real _ _ _ (fun p j => ?_) (fun h p => ?_) h k
  · pointwise [k0_pay114]
    exact ld5_real H t _ p j
  · exact pay115_real _ _ _ _ _ _ _ (ld5_real H t _) (ld6_real H t _) (ldCos_real H _) (ldSin_real H _) (ldQA_real H t _) (ldQP_real1 H t _) (ldQP_real2 H t _) h p

end Cert.KernelIdeal.Hand

end
-- ==== Proof.Val.Output.lean ====
/-
  What the last point stores, over the reals: the sum over heads of the heads' outputs by the output projection's rows.
-/
module

public import proofs.«01_k».proof.Proof.Val.Attn

@[expose] public section

set_option maxRecDepth 16384

noncomputable section

namespace Cert.KernelIdeal.Hand

open Idealize.ShloMosaic Idealize.ShloMosaic.TcCoe
open Cert.KernelIdeal Cert.KernelIdeal.Gen
open Cert.Attn (Args wvh o ol coe_sum)

/-! ## The payloads -/

section Payloads

variable (A : Args) (W : Fin 2048 → Fin 2048 → EReal)

/-- A head's share of the result. -/
def term (h : Fin 16) (b : Fin 8) (j : Fin 2048) : EReal := ∑ d : Fin 128, ((o A b h d : ℝ) : EReal) * W ⟨128 * h.val + d.val, by omega⟩ j

/-- A head's latent outputs, its columns of the value projection, its rows of the output projection (whole, or their left
    and right halves). -/
def HO (h : Fin 16) (x : Vec Ideal S8x1x512 .f32) : Prop := ∀ b k, x (ix3 b 0 k) = ((ol A b h k : ℝ) : EReal)
def HV (h : Fin 16) (x : Vec Ideal S512x128 .f32) : Prop := ∀ k d, x (ix2 k d) = ((wvh A h k d : ℝ) : EReal)
def HW (h : Fin 16) (x : Vec Ideal S128x2048 .f32) : Prop := ∀ (d : Fin 128) (j : Fin 2048), x (ix2 d j) = W ⟨128 * h.val + d.val, by omega⟩ j
def HL (h : Fin 16) (x : Vec Ideal S128x1024 .f32) : Prop :=
  ∀ (d : Fin 128) (j : Fin 1024), x (ix2 d j) = W ⟨128 * h.val + d.val, by omega⟩ ⟨j.val, by omega⟩
def HR (h : Fin 16) (x : Vec Ideal S128x1024 .f32) : Prop :=
  ∀ (d : Fin 128) (j : Fin 1024), x (ix2 d j) = W ⟨128 * h.val + d.val, by omega⟩ ⟨1024 + j.val, by omega⟩

variable {A} {W}

theorem value_eq {h : Fin 16} {b : Fin 8} {xo : Vec Ideal S8x1x512 .f32} {xv : Vec Ideal S512x128 .f32} (ho : HO A h xo) (hv : HV A h xv) (d : Fin 128) :
    ∑ k, xo (ix3 b 0 k) * xv (ix2 k d) = ((o A b h d : ℝ) : EReal) := by
  refine (Finset.sum_congr rfl fun k _ => ?_).trans ((coe_sum _ (fun k => ol A b h k * wvh A h k d)).trans (congrArg _ (Cert.Attn.o_eq A b h d)))
  rw [ho, hv, EReal.coe_mul]
theorem term_eq {h : Fin 16} {b : Fin 8} {j : Fin 2048} {xo : Vec Ideal S8x1x512 .f32} {xv : Vec Ideal S512x128 .f32} {x : Vec Ideal S128x2048 .f32}
    (ho : HO A h xo) (hv : HV A h xv) (hw : HW W h x) :
    ∑ d, (∑ k, xo (ix3 b 0 k) * xv (ix2 k d)) * x (ix2 d j) = term A W h b j :=
  Finset.sum_congr rfl fun d _ => by rw [value_eq ho hv, hw]
theorem halves_eq {h : Fin 16} (d : Fin 128) (j : Fin 2048) {xl xr : Vec Ideal S128x1024 .f32} (hl : HL W h xl) (hr : HR W h xr)
    (i : ∀ hj : ¬ j.val < 1024, j.val - 1024 < 1024) :
    (if hj : j.val < 1024 then xl (ix2 d ⟨j.val, hj⟩) else xr (ix2 d ⟨j.val - 1024, i hj⟩)) = W ⟨128 * h.val + d.val, by omega⟩ j := by
  split
  · rw [hl]
  · rename_i hj; rw [hr]; exact congrArg _ (Fin.ext (by show 1024 + (j.val - 1024) = j.val; omega))

theorem pay103_real (b : Fin 8) (j : Fin 2048) (x0 y0 w0) (o0 : HO A 0 x0) (v0 : HV A 0 y0) (u0 : HW W 0 w0) :
    k0_pay103 (F := Ideal) x0 y0 w0 (ix2 b j) = term A W 0 b j := by
  pointwise [k0_pay103]
  rw [term_eq o0 v0 u0]
theorem pay105_real (b : Fin 8) (j : Fin 2048) {h1 h2 h3 h4 : Fin 16} {S : EReal} (s x1 y1 w1 x2 y2 w2 x3 y3 w3 x4 y4 w4)
    (o1 : HO A h1 x1) (v1 : HV A h1 y1) (u1 : HW W h1 w1) (o2 : HO A h2 x2) (v2 : HV A h2 y2) (u2 : HW W h2 w2)
    (o3 : HO A h3 x3) (v3 : HV A h3 y3) (u3 : HW W h3 w3) (o4 : HO A h4 x4) (v4 : HV A h4 y4) (u4 : HW W h4 w4) (hs : s (ix2 b j) = S) :
    k0_pay105 (F := Ideal) s (k0_pay104 x1) y1 w1 x2 y2 w2 x3 y3 w3 x4 y4 w4 (ix2 b j)
      = S + term A W h1 b j + term A W h2 b j + term A W h3 b j + term A W h4 b j := by
  pointwise [k0_pay105, k0_pay104]
  rw [term_eq o1 v1 u1, term_eq o2 v2 u2, term_eq o3 v3 u3, term_eq o4 v4 u4, hs]
theorem pay106_real (b : Fin 8) (j : Fin 2048) {h1 h2 h3 : Fin 16} {S : EReal} (s x1 y1 w1 x2 y2 w2 x3 y3 w3)
    (o1 : HO A h1 x1) (v1 : HV A h1 y1) (u1 : HW W h1 w1) (o2 : HO A h2 x2) (v2 : HV A h2 y2) (u2 : HW W h2 w2)
    (o3 : HO A h3 x3) (v3 : HV A h3 y3) (u3 : HW W h3 w3) (hs : s (ix2 b j) = S) :
    k0_pay106 (F := Ideal) s x1 y1 w1 x2 y2 w2 x3 y3 w3 (ix2 b j)
      = S + term A W h1 b j + term A W h2 b j + term A W h3 b j := by
  pointwise [k0_pay106]
  rw [term_eq o1 v1 u1, term_eq o2 v2 u2, term_eq o3 v3 u3, hs]
theorem pay108_real (b : Fin 8) (j : Fin 2048) {h1 h2 h3 h4 : Fin 16} {S : EReal} (s x1 y1 w1 x2 y2 w2 x3 y3 w3 x4 y4 w4)
    (o1 : HO A h1 x1) (v1 : HV A h1 y1) (u1 : HW W h1 w1) (o2 : HO A h2 x2) (v2 : HV A h2 y2) (u2 : HW W h2 w2)
    (o3 : HO A h3 x3) (v3 : HV A h3 y3) (u3 : HW W h3 w3) (o4 : HO A h4 x4) (v4 : HV A h4 y4) (u4 : HW W h4 w4) (hs : s (ix2 b j) = S) :
    k0_pay108 (F := Ideal) s (k0_pay107 x1 y1 w1) x2 y2 w2 x3 y3 w3 x4 y4 w4 (ix2 b j)
      = S + term A W h1 b j + term A W h2 b j + term A W h3 b j + term A W h4 b j := by
  pointwise [k0_pay108, k0_pay107]
  rw [term_eq o1 v1 u1, term_eq o2 v2 u2, term_eq o3 v3 u3, term_eq o4 v4 u4, hs]
theorem pay110_real (b : Fin 8) (j : Fin 2048) {h1 h2 h3 : Fin 16} {S : EReal} (s x1 y1 l1 r1 x2 y2 l2 r2 x3 y3 l3 r3)
    (o1 : HO A h1 x1) (v1 : HV A h1 y1) (u1 : HL W h1 l1) (w1 : HR W h1 r1) (o2 : HO A h2 x2) (v2 : HV A h2 y2) (u2 : HL W h2 l2) (w2 : HR W h2 r2)
    (o3 : HO A h3 x3) (v3 : HV A h3 y3) (u3 : HL W h3 l3) (w3 : HR W h3 r3) (hs : s (ix2 b j) = S) :
    k0_pay110 (F := Ideal) s (k0_pay109 x1 y1) l1 r1 x2 y2 l2 r2 x3 y3 l3 r3 (ix2 b j)
      = S + term A W h1 b j + term A W h2 b j + term A W h3 b j := by
  pointwise [k0_pay110, k0_pay109]
  simp only [value_eq o1 v1, value_eq o2 v2, value_eq o3 v3, halves_eq _ _ u1 w1, halves_eq _ _ u2 w2, halves_eq _ _ u3 w3]
  rw [hs]; rfl
theorem pay2_real (b : Fin 8) (j : Fin 2048) {h1 : Fin 16} {S : EReal} (s x1 y1 l1 r1)
    (o1 : HO A h1 x1) (v1 : HV A h1 y1) (u1 : HL W h1 l1) (w1 : HR W h1 r1) (hs : s (ix2 b j) = S) :
    k0_pay2 (F := Ideal) s (k0_pay111 x1 y1) l1 r1 (ix3 b 0 j) = S + term A W h1 b j := by
  pointwise [k0_pay2, k0_pay111]
  simp only [value_eq o1 v1, halves_eq _ _ u1 w1]
  rw [hs]; rfl

end Payloads

/-! ## The loads -/

variable (m : (ℓ : Loc nD τ sig) → Buf (Elt Ideal) ℓ)

/-- The output projection's weights. -/
def Wo (c : Dev nD) (r j : Fin 2048) : EReal := m ((c : Thread nD τ).loc main_arg5) (ix2 r j)

variable {m} {A : Args} {c : Dev nD}

theorem inRow_ix3 (b : Fin 8) (h : Fin 16) (k : Fin 512) : inRow (ix3 b h k) = ix3 0 h k :=
  funext fun a => match a with
    | ⟨0, _⟩ => rfl
    | ⟨1, _⟩ => rfl
    | ⟨2, _⟩ => rfl

theorem ldO_real (H : Holds m A c) (h : Fin 16) (inb) : HO A h (ldO c (latent m c mO.view.junk 8) ![0, h.val, 0] inb) := fun b k => by
  refine (readAt_apply mO.view _ inb (ix3 b 0 k) (ix3 b h k) ?_).trans ?_
  · intro a
    match a with
    | ⟨0, _⟩ => exact (Nat.zero_add _).symm
    | ⟨1, _⟩ => rfl
    | ⟨2, _⟩ => exact (Nat.zero_add _).symm
  refine (read_latent_all m c mO.view.junk (ix3 b h k)).trans ?_
  rw [inRow_ix3]
  exact rowAt_real H ⟨b.val, b.isLt⟩ h k
theorem ldV_real (H : Holds m A c) (t : Fin cfg0.N) (h : Fin 16) (inb) :
    HV A h (ldV c (ms1 t) ((ms1 t).view.rep (iblk m c 1 t)) ![0, 256 * h.val + 128] inb) := fun k d => by
  refine (readAt_rep_apply (ms1 t).view (iblk m c 1 t) inb (ix2 k d) (ix2 k ⟨256 * h.val + 128 + d.val, by omega⟩)
    (Fin.forall_fin_two.mpr ⟨(Nat.zero_add _).symm, rfl⟩)).trans ?_
  exact (iblk1_apply m c t k _).trans (H.wk _ _)
/-- The weights in HBM through the slice a copy reads. -/
theorem read_hO {off size : Fin S2048x2048.rank → ℕ} (inb : ∀ a, off a + size a ≤ S2048x2048.size a) (x : (Rect.unit off size inb).shape.Idx)
    (r j : Fin 2048) (h0 : r.val = off 0 + (x 0).val) (h1 : j.val = off 1 + (x 1).val) :
    View.read (Elt Ideal) (hO.slice (Rect.unit off size inb) (fun _ => rfl)).view (V m c main_arg5) x = Wo m c r j := by
  have e : (Rect.unit off size inb).emb x = ix2 r j := funext (Fin.forall_fin_two.mpr
    ⟨Fin.ext (by show off 0 + 1 * (x 0).val = r.val; omega), Fin.ext (by show off 1 + 1 * (x 1).val = j.val; omega)⟩)
  show V m c main_arg5 ((Rect.unit off size inb).emb x) = _
  rw [e]
  entry_read
  rfl
/-- What such a slice holds. -/
abbrev inHbm (m : (ℓ : Loc nD τ sig) → Buf (Elt Ideal) ℓ) (c : Dev nD) {off size : Fin S2048x2048.rank → ℕ} (inb : ∀ a, off a + size a ≤ S2048x2048.size a) :
    Cont (F := Ideal) c (hO.slice (Rect.unit off size inb) (fun _ => rfl)) := V m c main_arg5
/-- The rows of heads 0 to 11, three copies of four heads each; -/
theorem ldW_real (g : Fin 3) (i : Fin 4) (ib ib' ib'') :
    HW (Wo m c) ⟨4 * g.val + i.val, by omega⟩ (ldW c (landed c (mW.slice (Rect.unit (s := S1536x3072) ![512 * g.val, 0] S512x2048.size ib) (fun _ => rfl))
      (hO.slice (Rect.unit (s := S2048x2048) ![512 * g.val, 0] S512x2048.size ib') (fun _ => rfl)) (inHbm m c ib')) ![128 * (4 * g.val + i.val), 0] ib'') := fun d j => by
  refine (landed_apply c ib'' ib _ _ (ix2 d j) (ix2 (⟨128 * i.val + d.val, by omega⟩ : Fin 512) j) ?_).trans ?_
  · refine Fin.forall_fin_two.mpr ⟨?_, rfl⟩
    show 128 * (4 * g.val + i.val) + d.val = 512 * g.val + (128 * i.val + d.val)
    omega
  · refine read_hO ib' _ _ _ ?_ ?_
    · show 128 * (4 * g.val + i.val) + d.val = 512 * g.val + (128 * i.val + d.val)
      omega
    · exact (Nat.zero_add _).symm
/-- and those of heads 12 to 15, left halves and right halves apart. -/
theorem ldL_real (i : Fin 4) (ib ib' ib'') :
    HL (Wo m c) ⟨12 + i.val, by omega⟩ (ldH c (landed c (mW.slice (Rect.unit (s := S1536x3072) ![0, 2048] S512x1024.size ib) (fun _ => rfl))
      (hO.slice (Rect.unit (s := S2048x2048) ![1536, 0] S512x1024.size ib') (fun _ => rfl)) (V m c main_arg5)) ![128 * i.val, 2048] ib'') := fun d j => by
  refine (landed_apply c ib'' ib _ _ (ix2 d j) (ix2 (⟨128 * i.val + d.val, by omega⟩ : Fin 512) j) ?_).trans ?_
  · refine Fin.forall_fin_two.mpr ⟨?_, rfl⟩
    show 128 * i.val + d.val = 0 + (128 * i.val + d.val)
    omega
  · refine read_hO ib' _ _ _ ?_ ?_
    · show 128 * (12 + i.val) + d.val = 1536 + (128 * i.val + d.val)
      omega
    · exact (Nat.zero_add _).symm
theorem ldR_real (i : Fin 4) (ib ib' ib'') :
    HR (Wo m c) ⟨12 + i.val, by omega⟩ (ldH c (landed c (mW.slice (Rect.unit (s := S1536x3072) ![512, 2048] S512x1024.size ib) (fun _ => rfl))
      (hO.slice (Rect.unit (s := S2048x2048) ![1536, 1024] S512x1024.size ib') (fun _ => rfl)) (V m c main_arg5)) ![512 + 128 * i.val, 2048] ib'') := fun d j => by
  refine (landed_apply c ib'' ib _ _ (ix2 d j) (ix2 (⟨128 * i.val + d.val, by omega⟩ : Fin 512) j) ?_).trans ?_
  · refine Fin.forall_fin_two.mpr ⟨?_, rfl⟩
    show 512 + 128 * i.val + d.val = 512 + (128 * i.val + d.val)
    omega
  · refine read_hO ib' _ _ _ ?_ ?_
    · show 128 * (12 + i.val) + d.val = 1536 + (128 * i.val + d.val)
      omega
    · rfl

/-! ## The sum -/

section Sum

variable (H : Holds m A c) (t : Fin cfg0.N) (b : Fin 8) (j : Fin 2048)
include H

theorem sumA_real :
    sumA c (ms1 t) ((ms1 t).view.rep (iblk m c 1 t)) (latent m c mO.view.junk 8) (V m c main_arg5) (ix2 b j)
      = term A (Wo m c) 0 b j + term A (Wo m c) 1 b j + term A (Wo m c) 2 b j + term A (Wo m c) 3 b j + term A (Wo m c) 4 b j := by
  unfold sumA
  refine (pay105_real (h1 := 1) (h2 := 2) (h3 := 3) (h4 := 4) b j _ _ _ _ _ _ _ _ _ _ _ _ _
    (ldO_real H 1 _) (ldV_real H t 1 _) (ldW_real 0 1 _ _ _) (ldO_real H 2 _) (ldV_real H t 2 _) (ldW_real 0 2 _ _ _)
    (ldO_real H 3 _) (ldV_real H t 3 _) (ldW_real 0 3 _ _ _) (ldO_real H 4 _) (ldV_real H t 4 _) (ldW_real 1 0 _ _ _) ?_)
  exact pay103_real b j _ _ _ (ldO_real H 0 _) (ldV_real H t 0 _) (ldW_real 0 0 _ _ _)
theorem sumB_real :
    sumB c (ms1 t) ((ms1 t).view.rep (iblk m c 1 t)) (latent m c mO.view.junk 8) (V m c main_arg5) (ix2 b j)
      = term A (Wo m c) 0 b j + term A (Wo m c) 1 b j + term A (Wo m c) 2 b j + term A (Wo m c) 3 b j + term A (Wo m c) 4 b j
        + term A (Wo m c) 5 b j + term A (Wo m c) 6 b j + term A (Wo m c) 7 b j
        + term A (Wo m c) 8 b j + term A (Wo m c) 9 b j + term A (Wo m c) 10 b j + term A (Wo m c) 11 b j := by
  unfold sumB
  refine (pay108_real (h1 := 8) (h2 := 9) (h3 := 10) (h4 := 11) b j _ _ _ _ _ _ _ _ _ _ _ _ _
    (ldO_real H 8 _) (ldV_real H t 8 _) (ldW_real 2 0 _ _ _) (ldO_real H 9 _) (ldV_real H t 9 _) (ldW_real 2 1 _ _ _)
    (ldO_real H 10 _) (ldV_real H t 10 _) (ldW_real 2 2 _ _ _) (ldO_real H 11 _) (ldV_real H t 11 _) (ldW_real 2 3 _ _ _) ?_)
  refine (pay106_real (h1 := 5) (h2 := 6) (h3 := 7) b j _ _ _ _ _ _ _ _ _ _
    (ldO_real H 5 _) (ldV_real H t 5 _) (ldW_real 1 1 _ _ _) (ldO_real H 6 _) (ldV_real H t 6 _) (ldW_real 1 2 _ _ _)
    (ldO_real H 7 _) (ldV_real H t 7 _) (ldW_real 1 3 _ _ _) (sumA_real H t b j))
theorem sumC_real :
    sumC c (ms1 t) ((ms1 t).view.rep (iblk m c 1 t)) (latent m c mO.view.junk 8) (V m c main_arg5) (ix2 b j)
      = term A (Wo m c) 0 b j + term A (Wo m c) 1 b j + term A (Wo m c) 2 b j + term A (Wo m c) 3 b j + term A (Wo m c) 4 b j
        + term A (Wo m c) 5 b j + term A (Wo m c) 6 b j + term A (Wo m c) 7 b j
        + term A (Wo m c) 8 b j + term A (Wo m c) 9 b j + term A (Wo m c) 10 b j + term A (Wo m c) 11 b j
        + term A (Wo m c) 12 b j + term A (Wo m c) 13 b j + term A (Wo m c) 14 b j := by
  unfold sumC
  refine (pay110_real (h1 := 12) (h2 := 13) (h3 := 14) b j _ _ _ _ _ _ _ _ _ _ _ _ _
    (ldO_real H 12 _) (ldV_real H t 12 _) (ldL_real 0 _ _ _) (ldR_real 0 _ _ _) (ldO_real H 13 _) (ldV_real H t 13 _) (ldL_real 1 _ _ _) (ldR_real 1 _ _ _)
    (ldO_real H 14 _) (ldV_real H t 14 _) (ldL_real 2 _ _ _) (ldR_real 2 _ _ _) (sumB_real H t b j))
/-- What the last point stores is the attention's result. -/
theorem outAt_real : outAt m c t (ix3 b 0 j) = Cert.Attn.out A (Wo m c) b j := by
  unfold outAt outOf
  refine (pay2_real (h1 := 15) b j _ _ _ _ _ (ldO_real H 15 _) (ldV_real H t 15 _) (ldL_real 3 _ _ _) (ldR_real 3 _ _ _) (sumC_real H t b j)).trans ?_
  show _ = ∑ h : Fin 16, term A (Wo m c) h b j
  simp only [Fin.sum_univ_succ, Finset.univ_eq_empty, Finset.sum_empty, add_zero, ← add_assoc]
  rfl

end Sum

end Cert.KernelIdeal.Hand

end
-- ==== Proof.Val.Ref.lean ====
/-
  The reference, layer by layer.
-/
module

public import proofs.«01_k».proof.Proof.Gen.ReferenceIdeal.Run
public import proofs.«01_k».proof.Proof.Val.Spec
public import Idealize.ShloMosaic.Lib.Pointwise
public import Idealize.ShloMosaic.Lib.StableHlo.Predicate

@[expose] public section

set_option maxRecDepth 16384

noncomputable section

namespace Cert.ReferenceIdeal.Hand

open Idealize.ShloMosaic Idealize.ShloMosaic.TcCoe
open Cert.ReferenceIdeal Cert.ReferenceIdeal.Gen

variable {F : FTy → Type} [FloatOps F]

/-- The rotation's frequencies, -/
def rInv : FVec F S32 .f32 :=
  Host.divf (broadcastInDim S32 ![] bcast_S_S32 (constant S_ .f32 0x3F800000#32))
    (Host.powf (broadcastInDim S32 ![] bcast_S_S32 (constant S_ .f32 0x461C4000#32)) (Host.divf (sitofp .f32 (iotaInDim S32 32 0)) (broadcastInDim S32 ![] bcast_S_S32 (constant S_ .f32 0x42000000#32))))
/-- the query's position, -/
def rPos : IVec S1 32 := addi (broadcastInDim S1 ![] bcast_S_S1 (constantI S_ 32 4095#32)) (iotaInDim S1 32 0)
/-- its angles, -/
def rQang : FVec F S1x1x32 .f32 :=
  mulf (broadcastInDim S1x1x32 ![0, 1, 2] bcast_S1x1x1_S1x1x32_0_1_2 (broadcastInDim S1x1x1 ![0, 1] bcast_S1x1_S1x1x1_0_1 (sitofp .f32 (broadcastInDim S1x1 ![0] bcast_S1_S1x1_0 rPos))))
    (broadcastInDim S1x1x32 ![2] bcast_S32_S1x1x32_2 rInv)
/-- and the keys'. -/
def rTang : FVec F S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1 rInv))
/-- The queries by head, -/
def rQ (x0 : FVec F S8x1x1536 .f32) (x3 : FVec F S1536x3072 .f32) : FVec F S8x1x16x192 .f32 :=
  shapeCast _ (Host.dotGeneral dot_S8x1x1536_S1536x3072_S8x1x3072_2_0_01_1_n_n none x0 x3) shapeCasts_S8x1x3072_S8x1x16x192
/-- an angle's function over the heads, -/
def rQb (x : FVec F S1x1x32 .f32) : FVec F S8x1x16x32 .f32 :=
  broadcastInDim S8x1x16x32 ![0, 1, 2, 3] bcast_S1x1x1x32_S8x1x16x32_0_1_2_3 (broadcastInDim S1x1x1x32 ![1, 2, 3] bcast_S1x1x32_S1x1x1x32_1_2_3 x)
/-- the queries' last 64 numbers, in two halves, -/
def rQx (x : FVec F S8x1x16x192 .f32) : FVec F S8x1x16x32 .f32 :=
  extractStridedSlice S8x1x16x32 ![0, 0, 0, 0] (extractStridedSlice S8x1x16x64 ![0, 0, 0, 128] x slices_S8x1x16x192_S8x1x16x64_0_0_0_128) slices_S8x1x16x64_S8x1x16x32_0_0_0_0
def rQy (x : FVec F S8x1x16x192 .f32) : FVec F S8x1x16x32 .f32 :=
  extractStridedSlice S8x1x16x32 ![0, 0, 0, 32] (extractStridedSlice S8x1x16x64 ![0, 0, 0, 128] x slices_S8x1x16x192_S8x1x16x64_0_0_0_128) slices_S8x1x16x64_S8x1x16x32_0_0_0_32
/-- rotated. -/
def rQrot (x : FVec F S8x1x16x192 .f32) : FVec F S8x1x16x64 .f32 :=
  concatenate S8x1x16x64 3 [⟨S8x1x16x32, subf (mulf (rQx x) (rQb (Host.cos rQang))) (mulf (rQy x) (rQb (Host.sin rQang)))⟩,
    ⟨S8x1x16x32, addf (mulf (rQy x) (rQb (Host.cos rQang))) (mulf (rQx x) (rQb (Host.sin rQang)))⟩] concatenates_S8x1x16x32_S8x1x16x32_S8x1x16x64_d3
/-- The queries whole. -/
def rQf (x : FVec F S8x1x16x192 .f32) : FVec F S8x1x16x192 .f32 :=
  concatenate S8x1x16x192 3 [⟨S8x1x16x128, extractStridedSlice S8x1x16x128 ![0, 0, 0, 0] x slices_S8x1x16x192_S8x1x16x128_0_0_0_0⟩, ⟨S8x1x16x64, rQrot x⟩]
    concatenates_S8x1x16x128_S8x1x16x64_S8x1x16x192_d3
/-- An angle's function over the batch. -/
def rTb (x : FVec F S4096x32 .f32) : FVec F S8x4096x32 .f32 :=
  broadcastInDim S8x4096x32 ![0, 1, 2] bcast_S1x4096x32_S8x4096x32_0_1_2 (broadcastInDim S1x4096x32 ![1, 2] bcast_S4096x32_S1x4096x32_1_2 x)
/-- The rotary keys, rotated. -/
def rKrot (x : FVec F S8x4096x64 .f32) : FVec F S8x4096x64 .f32 :=
  concatenate S8x4096x64 2
    [⟨S8x4096x32, subf (mulf (extractStridedSlice S8x4096x32 ![0, 0, 0] x slices_S8x4096x64_S8x4096x32_0_0_0) (rTb (Host.cos rTang)))
      (mulf (extractStridedSlice S8x4096x32 ![0, 0, 32] x slices_S8x4096x64_S8x4096x32_0_0_32) (rTb (Host.sin rTang)))⟩,
     ⟨S8x4096x32, addf (mulf (extractStridedSlice S8x4096x32 ![0, 0, 32] x slices_S8x4096x64_S8x4096x32_0_0_32) (rTb (Host.cos rTang)))
      (mulf (extractStridedSlice S8x4096x32 ![0, 0, 0] x slices_S8x4096x64_S8x4096x32_0_0_0) (rTb (Host.sin rTang)))⟩]
    concatenates_S8x4096x32_S8x4096x32_S8x4096x64_d2
/-- The cache taken to the heads' keys and values, -/
def rKV (x1 : FVec F S8x4096x512 .f32) (x4 : FVec F S512x4096 .f32) : FVec F S8x4096x16x256 .f32 :=
  shapeCast _ (Host.dotGeneral dot_S8x4096x512_S512x4096_S8x4096x4096_2_0_01_1_n_n none x1 x4) shapeCasts_S8x4096x4096_S8x4096x16x256
/-- the keys whole, -/
def rK (x : FVec F S8x4096x16x256 .f32) (r : FVec F S8x4096x64 .f32) : FVec F S8x4096x16x192 .f32 :=
  concatenate S8x4096x16x192 3 [⟨S8x4096x16x128, extractStridedSlice S8x4096x16x128 ![0, 0, 0, 0] x slices_S8x4096x16x256_S8x4096x16x128_0_0_0_0⟩,
    ⟨S8x4096x16x64, broadcastInDim S8x4096x16x64 ![0, 1, 2, 3] bcast_S8x4096x1x64_S8x4096x16x64_0_1_2_3 (broadcastInDim S8x4096x1x64 ![0, 1, 3] bcast_S8x4096x64_S8x4096x1x64_0_1_3 r)⟩]
    concatenates_S8x4096x16x128_S8x4096x16x64_S8x4096x16x192_d3
/-- the scores, scaled, -/
def rS (q : FVec F S8x1x16x192 .f32) (k : FVec F S8x4096x16x192 .f32) : FVec F S8x16x1x4096 .f32 :=
  Host.divf (Host.dotGeneral dot_S8x1x16x192_S8x4096x16x192_S8x16x1x4096_3_3_1_1_02_02 none q k)
    (broadcastInDim S8x16x1x4096 ![] bcast_S_S8x16x1x4096 (Host.sqrt (constant S_ .f32 0x43400000#32)))
/-- masked, -/
def rM (s : FVec F S8x16x1x4096 .f32) : FVec F S8x16x1x4096 .f32 :=
  select (broadcastInDim S8x16x1x4096 ![0, 1, 2, 3] bcast_S1x1x1x4096_S8x16x1x4096_0_1_2_3 (broadcastInDim S1x1x1x4096 ![2, 3] bcast_S1x4096_S1x1x1x4096_2_3
    (cmpi .sle (broadcastInDim S1x4096 ![1] bcast_S4096_S1x4096_1 (iotaInDim S4096 32 0)) (broadcastInDim S1x4096 ![0, 1] bcast_S1x1_S1x4096_0_1 (broadcastInDim S1x1 ![0] bcast_S1_S1x1_0 rPos)))))
    s (broadcastInDim S8x16x1x4096 ![] bcast_S_S8x16x1x4096 (constant S_ .f32 0xF149F2CA#32))
/-- a row's number over the row, -/
def rB (x : FVec F S8x16x1 .f32) : FVec F S8x16x1x4096 .f32 :=
  broadcastInDim S8x16x1x4096 ![0, 1, 2, 3] bcast_S8x16x1x1_S8x16x1x4096_0_1_2_3 (broadcastInDim S8x16x1x1 ![0, 1, 2] bcast_S8x16x1_S8x16x1x1_0_1_2 x)
/-- the weights before the division, -/
def rE (s : FVec F S8x16x1x4096 .f32) : FVec F S8x16x1x4096 .f32 :=
  Host.exp (subf s (rB (maximumf (broadcastInDim S8x16x1 ![] bcast_S_S8x16x1 (constant S_ .f32 0xFF800000#32))
    (Host.reduce FloatOps.maximumf s (constant S_ .f32 0xFF800000#32) reducesTo_S8x16x1x4096_S8x16x1_d3 h_S_))))
/-- after it, -/
def rP (e : FVec F S8x16x1x4096 .f32) : FVec F S8x16x1x4096 .f32 :=
  Host.divf e (rB (Host.reduceAdd e (constant S_ .f32 0x00000000#32) reducesTo_S8x16x1x4096_S8x16x1_d3 h_S_))
/-- the heads' outputs, side by side, -/
def rO (x : FVec F S8x4096x16x256 .f32) (p : FVec F S8x16x1x4096 .f32) : FVec F S8x1x2048 .f32 :=
  shapeCast _ (transpose S8x1x16x128 [0, 3, 1, 2] (Host.dotGeneral dot_S8x4096x16x128_S8x16x1x4096_S8x16x128x1_1_3_3_2_02_01 none
    (extractStridedSlice S8x4096x16x128 ![0, 0, 0, 128] x slices_S8x4096x16x256_S8x4096x16x128_0_0_0_128) p) transposes_S8x16x128x1_S8x1x16x128_0_3_1_2) shapeCasts_S8x1x16x128_S8x1x2048
/-- and the result. -/
def rOut (x : FVec F S8x1x2048 .f32) (x5 : FVec F S2048x2048 .f32) : FVec F S8x1x2048 .f32 :=
  Host.dotGeneral dot_S8x1x2048_S2048x2048_S8x1x2048_2_0_01_1_n_n none x x5

theorem out_eq (m : (ℓ : Loc nD τ sig) → Buf (Elt F) ℓ) (c : Dev nD) :
    Value.res_out0 m c = rOut (rO (rKV (m ((c.tc : Thread nD τ).loc main_arg1)) (m ((c.tc : Thread nD τ).loc main_arg4)))
      (rP (rE (rM (rS (rQf (rQ (m ((c.tc : Thread nD τ).loc main_arg0)) (m ((c.tc : Thread nD τ).loc main_arg3))))
        (rK (rKV (m ((c.tc : Thread nD τ).loc main_arg1)) (m ((c.tc : Thread nD τ).loc main_arg4))) (rKrot (m ((c.tc : Thread nD τ).loc main_arg2)))))))))
      (m ((c.tc : Thread nD τ).loc main_arg5)) := rfl

end Cert.ReferenceIdeal.Hand

end
-- ==== Proof.Val.RefReal.lean ====
/-
  The reference's layers, over the reals.
-/
module

public import proofs.«01_k».proof.Proof.Val.Ref
public import Idealize.ShloMosaic.Lib.Pipeline.ValueKit

@[expose] public section

set_option maxRecDepth 16384

noncomputable section

namespace Cert.ReferenceIdeal.Hand

open Idealize.ShloMosaic Idealize.ShloMosaic.TcCoe
open Cert.ReferenceIdeal Cert.ReferenceIdeal.Gen
open Cert.KernelIdeal.Hand (freq sitofp_nat ofBits_32 ofBits_10000)
open Cert.Attn (Args qf qx qy q1 q2 kx ky k1 k2 wkh wvh kn vn sc mx mx_eq p l l_ne o rot scl coe_sum)

/-! ## Literals -/

theorem ofBits_192 : Ideal.ofBits .f32 0x43400000#32 = ((192 : ℝ) : EReal) := by
  simp [Ideal.ofBits, Ideal.ieee, -EReal.coe_mul]; norm_num
theorem ofBits_ninf : Ideal.ofBits .f32 0xFF800000#32 = ⊥ := by simp [Ideal.ofBits, Ideal.ieee]

theorem freq_pow (i : ℕ) : (1 / (10000 : ℝ) ^ ((i : ℝ) * (1 / 32)) : ℝ) = freq i := by
  rw [Real.rpow_def_of_pos (by norm_num), one_div, ← Real.exp_neg]
  unfold freq
  congr 1; ring

theorem rInv_apply (i : Fin 32) : rInv (F := Ideal) (ix1 i) = ((freq i.val : ℝ) : EReal) := by
  pointwise [rInv]
  rw [sitofp_nat _ (by have := i.isLt; omega), ofBits_10000, ofBits_32]
  rw [Ideal.div_coe (by norm_num), ← EReal.coe_mul, Ideal.pow_coe_coe]
  refine (Ideal.div_coe (Real.rpow_pos_of_pos (by norm_num) _).ne' _).trans ?_
  rw [one_mul, freq_pow]
theorem rQang_apply (i : Fin 32) : rQang (F := Ideal) (ix3 0 0 i) = ((4095 * freq i.val : ℝ) : EReal) := by
  pointwise [rQang, rPos]
  rw [rInv_apply, show IntOp.addi 4095#32 0#32 = BitVec.ofNat 32 4095 from rfl, sitofp_nat _ (by norm_num), ← EReal.coe_mul]
  norm_num
theorem rTang_apply (t : Fin 4096) (i : Fin 32) : rTang (F := Ideal) (ix2 t i) = ((t.val * freq i.val : ℝ) : EReal) := by
  pointwise [rTang]
  rw [rInv_apply, sitofp_nat _ (by have := t.isLt; omega), ← EReal.coe_mul]

variable (A : Args)

theorem rQ_real (x0 x3) (h0 : ∀ b r, x0 (ix3 b 0 r) = ((A.q b r : ℝ) : EReal)) (h3 : ∀ r j, x3 (ix2 r j) = ((A.wq r j : ℝ) : EReal))
    (b : Fin 8) (h : Fin 16) (j : Fin 192) : rQ (F := Ideal) x0 x3 (ix4 b 0 h j) = ((qf A b h j : ℝ) : EReal) := by
  pointwise [rQ]
  simp only [h0, h3, ← EReal.coe_mul, coe_sum]
  unfold qf
  simp only [mul_comm 192]

theorem rQf_lo (x) (hx : ∀ b h j, x (ix4 b 0 h j) = ((qf A b h j : ℝ) : EReal)) (b : Fin 8) (h : Fin 16) (d : Fin 128) :
    rQf (F := Ideal) x (ix4 b 0 h ⟨d.val, by omega⟩) = ((qf A b h ⟨d.val, by omega⟩ : ℝ) : EReal) := by
  pointwise [rQf]
  exact hx _ _ _
theorem rQf_mid (x) (hx : ∀ b h j, x (ix4 b 0 h j) = ((qf A b h j : ℝ) : EReal)) (b : Fin 8) (h : Fin 16) (i : Fin 32) :
    rQf (F := Ideal) x (ix4 b 0 h ⟨128 + i.val, by omega⟩) = ((q1 A b h i : ℝ) : EReal) := by
  pointwise [rQf, rQrot, rQx, rQy, rQb]
  rw [hx, hx, rQang_apply]
  simp only [q1, qx, qy, show ∀ i : Fin 32, 160 + i.val = 128 + (32 + i.val) from fun i => by omega, EReal.coe_sub, EReal.coe_mul]
  rfl
theorem rQf_hi (x) (hx : ∀ b h j, x (ix4 b 0 h j) = ((qf A b h j : ℝ) : EReal)) (b : Fin 8) (h : Fin 16) (i : Fin 32) :
    rQf (F := Ideal) x (ix4 b 0 h ⟨128 + (32 + i.val), by omega⟩) = ((q2 A b h i : ℝ) : EReal) := by
  pointwise [rQf, rQrot, rQx, rQy, rQb]
  rw [hx, hx, rQang_apply]
  simp only [q2, qx, qy, show ∀ i : Fin 32, 160 + i.val = 128 + (32 + i.val) from fun i => by omega, EReal.coe_add, EReal.coe_mul]
  rfl

theorem rKV_real (x1 x4) (h1 : ∀ b t k, x1 (ix3 b t k) = ((A.kv b t k : ℝ) : EReal)) (h4 : ∀ k j, x4 (ix2 k j) = ((A.wk k j : ℝ) : EReal))
    (b : Fin 8) (t : Fin 4096) (h : Fin 16) (j : Fin 256) :
    rKV (F := Ideal) x1 x4 (ix4 b t h j) = ((∑ k : Fin 512, A.kv b t k * A.wk k ⟨256 * h.val + j.val, by omega⟩ : ℝ) : EReal) := by
  pointwise [rKV]
  simp only [h1, h4, ← EReal.coe_mul, coe_sum, mul_comm 256]

theorem rK_lo (x r) (hx : ∀ b t h j, x (ix4 b t h j) = ((∑ k : Fin 512, A.kv b t k * A.wk k ⟨256 * h.val + j.val, by omega⟩ : ℝ) : EReal))
    (b : Fin 8) (t : Fin 4096) (h : Fin 16) (d : Fin 128) :
    rK (F := Ideal) x r (ix4 b t h ⟨d.val, by omega⟩) = ((kn A b h t d : ℝ) : EReal) := by
  pointwise [rK]
  exact hx _ _ _ _
theorem rK_mid (x x2) (h2 : ∀ b t k, x2 (ix3 b t k) = ((A.kp b t k : ℝ) : EReal)) (b : Fin 8) (t : Fin 4096) (h : Fin 16) (i : Fin 32) :
    rK (F := Ideal) x (rKrot x2) (ix4 b t h ⟨128 + i.val, by omega⟩) = ((k1 A b t i : ℝ) : EReal) := by
  pointwise [rK, rKrot, rTb]
  rw [h2, h2, rTang_apply]
  simp only [k1, kx, ky, EReal.coe_sub, EReal.coe_mul]
  rfl
theorem rK_hi (x x2) (h2 : ∀ b t k, x2 (ix3 b t k) = ((A.kp b t k : ℝ) : EReal)) (b : Fin 8) (t : Fin 4096) (h : Fin 16) (i : Fin 32) :
    rK (F := Ideal) x (rKrot x2) (ix4 b t h ⟨128 + (32 + i.val), by omega⟩) = ((k2 A b t i : ℝ) : EReal) := by
  pointwise [rK, rKrot, rTb]
  rw [h2, h2, rTang_apply]
  simp only [k2, kx, ky, EReal.coe_add, EReal.coe_mul]
  rfl

/-- A sum over 192 columns: the first 128, the next 32, the last 32. -/
theorem sum_192 (f : Fin 192 → ℝ) :
    ∑ x, f x = (∑ d : Fin 128, f ⟨d.val, by omega⟩) + ((∑ i : Fin 32, f ⟨128 + i.val, by omega⟩) + ∑ i : Fin 32, f ⟨128 + (32 + i.val), by omega⟩) := by
  rw [show (∑ x, f x) = _ from Fin.sum_univ_add (a := 128) (b := 64) f,
    show (∑ x : Fin 64, f (Fin.natAdd 128 x)) = _ from Fin.sum_univ_add (a := 32) (b := 32) (fun x => f (Fin.natAdd 128 x))]
  rfl
/-- The columns' own numbers, by thirds. -/
def cat (x : Fin 128 → ℝ) (y z : Fin 32 → ℝ) (j : Fin 192) : ℝ :=
  if h : j.val < 128 then x ⟨j.val, h⟩ else if h' : j.val < 160 then y ⟨j.val - 128, by omega⟩ else z ⟨j.val - 160, by omega⟩
theorem cat_eq {f : Fin 192 → EReal} {x : Fin 128 → ℝ} {y z : Fin 32 → ℝ} (hx : ∀ d, f ⟨d.val, by omega⟩ = ((x d : ℝ) : EReal))
    (hy : ∀ i, f ⟨128 + i.val, by omega⟩ = ((y i : ℝ) : EReal)) (hz : ∀ i, f ⟨128 + (32 + i.val), by omega⟩ = ((z i : ℝ) : EReal)) (j : Fin 192) :
    f j = ((cat x y z j : ℝ) : EReal) := by
  unfold cat
  split
  · rename_i h; exact hx ⟨j.val, h⟩
  · rename_i h
    split
    · rename_i h'
      rw [← hy ⟨j.val - 128, by omega⟩]; congr 1; ext; show j.val = 128 + (j.val - 128); omega
    · rename_i h'
      rw [← hz ⟨j.val - 160, by omega⟩]; congr 1; ext; show j.val = 128 + (32 + (j.val - 160)); omega
theorem cat_sum (x x' : Fin 128 → ℝ) (y z y' z' : Fin 32 → ℝ) :
    ∑ j, cat x y z j * cat x' y' z' j = (∑ d, x d * x' d) + ((∑ i, y i * y' i) + ∑ i, z i * z' i) := by
  rw [sum_192]
  refine congrArg₂ (· + ·) (Finset.sum_congr rfl fun d _ => ?_)
    (congrArg₂ (· + ·) (Finset.sum_congr rfl fun i _ => ?_) (Finset.sum_congr rfl fun i _ => ?_))
  · simp [cat]
  · simp [cat, show 128 + i.val < 160 by omega]
  · simp [cat, show 128 + (32 + i.val) - 160 = i.val by omega, show ¬ 128 + (32 + i.val) < 160 by omega]

theorem rS_real (q k) (hq0 : ∀ b h (d : Fin 128), q (ix4 b 0 h ⟨d.val, by omega⟩) = ((qf A b h ⟨d.val, by omega⟩ : ℝ) : EReal))
    (hq1 : ∀ b h (i : Fin 32), q (ix4 b 0 h ⟨128 + i.val, by omega⟩) = ((q1 A b h i : ℝ) : EReal))
    (hq2 : ∀ b h (i : Fin 32), q (ix4 b 0 h ⟨128 + (32 + i.val), by omega⟩) = ((q2 A b h i : ℝ) : EReal))
    (hk0 : ∀ b t h (d : Fin 128), k (ix4 b t h ⟨d.val, by omega⟩) = ((kn A b h t d : ℝ) : EReal))
    (hk1 : ∀ b t h (i : Fin 32), k (ix4 b t h ⟨128 + i.val, by omega⟩) = ((k1 A b t i : ℝ) : EReal))
    (hk2 : ∀ b t h (i : Fin 32), k (ix4 b t h ⟨128 + (32 + i.val), by omega⟩) = ((k2 A b t i : ℝ) : EReal))
    (b : Fin 8) (h : Fin 16) (t : Fin 4096) : rS (F := Ideal) q k (ix4 b h 0 t) = ((sc A b h t : ℝ) : EReal) := by
  have eq := cat_eq (f := fun j => q (ix4 b 0 h j)) (hq0 b h) (hq1 b h) (hq2 b h)
  have ek := cat_eq (f := fun j => k (ix4 b t h j)) (hk0 b t h) (hk1 b t h) (hk2 b t h)
  pointwise [rS]
  simp only [eq, ek, ← EReal.coe_mul, coe_sum, cat_sum]
  have e : Ideal.sqrt (Ideal.ofBits .f32 0x43400000#32) = ((Real.sqrt 192 : ℝ) : EReal) := by
    rw [ofBits_192, Ideal.sqrt_coe, if_neg (by norm_num)]
  rw [e]
  refine (Ideal.div_coe (by positivity) _).trans ?_
  rw [← EReal.coe_mul]
  simp only [sc, rot, scl, one_div]

theorem rM_apply (s) (b : Fin 8) (h : Fin 16) (t : Fin 4096) : rM (F := Ideal) s (ix4 b h 0 t) = s (ix4 b h 0 t) := by
  pointwise [rM, rPos]
  have : t.val < 4096 := t.isLt
  rw [show IntOp.addi 4095#32 0#32 = BitVec.ofNat 32 4095 from rfl]
  have e : IntOp.cmpi .sle (BitVec.ofNat 32 t.val) (BitVec.ofNat 32 4095) = 1#1 := by
    exact (Idealize.ShloMosaic.StableHlo.Predicate.sle_ofNat_iff _ _ (by omega) (by norm_num)).mpr (by omega)
  rw [e]; rfl

theorem rE_real (s) (hs : ∀ b h t, s (ix4 b h 0 t) = ((sc A b h t : ℝ) : EReal)) (b : Fin 8) (h : Fin 16) (t : Fin 4096) :
    rE (F := Ideal) s (ix4 b h 0 t) = ((p A b h t : ℝ) : EReal) := by
  pointwise [rE, rB]
  simp only [hs, ofBits_ninf, mx_eq, max_eq_right bot_le, ← EReal.coe_sub]
  exact Ideal.exp_coe _
theorem rP_real (e) (he : ∀ b h t, e (ix4 b h 0 t) = ((p A b h t : ℝ) : EReal)) (b : Fin 8) (h : Fin 16) (t : Fin 4096) :
    rP (F := Ideal) e (ix4 b h 0 t) = ((p A b h t * (1 / l A b h) : ℝ) : EReal) := by
  pointwise [rP, rB]
  simp only [he, coe_sum]
  refine (Ideal.div_coe (l_ne A b h) _).trans ?_
  rw [← EReal.coe_mul]
  try rfl
theorem rO_real (x w) (hx : ∀ b t h j, x (ix4 b t h j) = ((∑ k : Fin 512, A.kv b t k * A.wk k ⟨256 * h.val + j.val, by omega⟩ : ℝ) : EReal))
    (hw : ∀ b h t, w (ix4 b h 0 t) = ((p A b h t * (1 / l A b h) : ℝ) : EReal)) (b : Fin 8) (h : Fin 16) (d : Fin 128) :
    rO (F := Ideal) x w (ix3 b 0 ⟨128 * h.val + d.val, by omega⟩) = ((o A b h d : ℝ) : EReal) := by
  pointwise [rO]
  simp only [hx, hw, ← EReal.coe_mul, coe_sum]
  simp only [o, vn, wvh, ← add_assoc]
theorem rOut_real (x x5) (hx : ∀ b h d, x (ix3 b 0 ⟨128 * h.val + d.val, by omega⟩) = ((o A b h d : ℝ) : EReal)) (b : Fin 8) (j : Fin 2048) :
    rOut (F := Ideal) x x5 (ix3 b 0 j) = Cert.Attn.out A (fun r j => x5 (ix2 r j)) b j := by
  pointwise [rOut]
  unfold Cert.Attn.out
  simp only [← hx]
  refine (Fin.sum_mul_add_congr (S := 16) (n := 128) (f := fun r : Fin 2048 => x (ix3 b 0 r) * x5 (ix2 r j)) fun s k hl => ?_).symm
  simp only [mul_comm 128]

end Cert.ReferenceIdeal.Hand

end
-- ==== Proof.Val.Equal.lean ====
/-
  The two programs' results: finite arguments are real numbers, and of those both compute the attention.
-/
module

public import proofs.«01_k».proof.Defs
public import proofs.«01_k».proof.Proof.KI.Frame
public import proofs.«01_k».proof.Proof.Val.Output
public import proofs.«01_k».proof.Proof.Val.RefReal
public import Idealize.ShloMosaic.Lib.ReduceAll

@[expose] public section

set_option maxRecDepth 16384

noncomputable section

namespace Cert.Equal

open Idealize.ShloMosaic Idealize.ShloMosaic.TcCoe Idealize.SL.Sem
open Cert.Attn (Args)

/-! ## The condition read back -/

/-- A number of finite magnitude is real. -/
theorem real_of_lt (x : Ideal .f32)
    (h : FloatOps.cmpf .olt (FloatOps.hostAbsf x) (FloatOps.ofBits (F := Ideal) .f32 0x7F800000#32) = 1#1) : (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine (EReal.coe_toReal hlt.1.ne ?_).symm
  rintro rfl
  exact absurd hlt.2 (by simp)

variable [hP : Cert.Pre_finite.Facts]

open Cert.Pre_finite in
/-- Under the condition every element of the five arrays is real. -/
theorem reals (x0 : FVec Ideal S8x1x1536 .f32) (x1 : FVec Ideal S8x4096x512 .f32) (x2 : FVec Ideal S8x4096x64 .f32) (x3 : FVec Ideal S1536x3072 .f32)
    (x4 : FVec Ideal S512x4096 .f32) (x5 : FVec Ideal S2048x2048 .f32) (h : Cert.Pre_finite.fn (F := Ideal) x0 x1 x2 x3 x4 x5 = fun _ => 1#1) :
    (∀ i, (x0 i : EReal) = ((EReal.toReal (x0 i) : ℝ) : EReal)) ∧ (∀ i, (x1 i : EReal) = ((EReal.toReal (x1 i) : ℝ) : EReal))
    ∧ (∀ i, (x2 i : EReal) = ((EReal.toReal (x2 i) : ℝ) : EReal)) ∧ (∀ i, (x3 i : EReal) = ((EReal.toReal (x3 i) : ℝ) : EReal))
    ∧ ∀ i, (x4 i : EReal) = ((EReal.toReal (x4 i) : ℝ) : EReal) := by
  haveI : Subsingleton S_.Idx := ⟨fun a b => funext fun k => k.elim0⟩
  have e := congrFun h (Shape.Idx.first Facts.h_S_)
  unfold Cert.Pre_finite.fn Cert.Pre_finite.fn_part1 at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i)⟩

section Kernel

open Cert.KernelIdeal Cert.KernelIdeal.Gen Cert.KernelIdeal.Hand

variable (m : (ℓ : Loc nD τ sig) → Buf (Elt Ideal) ℓ) (c : Dev nD)

/-- The arguments' real numbers. -/
def args : Args where
  q b r := EReal.toReal (m ((c : Thread nD τ).loc main_arg0) (ix3 b 0 r))
  kv b t k := EReal.toReal (m ((c : Thread nD τ).loc main_arg1) (ix3 b t k))
  kp b t k := EReal.toReal (m ((c : Thread nD τ).loc main_arg2) (ix3 b t k))
  wq r j := EReal.toReal (m ((c : Thread nD τ).loc main_arg3) (ix2 r j))
  wk k j := EReal.toReal (m ((c : Thread nD τ).loc main_arg4) (ix2 k j))

theorem holds (h : Cert.Pre_KernelIdeal_finite m) : Holds m (args m c) c := by
  obtain ⟨h0, h1, h2, h3, h4⟩ := reals _ _ _ _ _ _ (h c)
  exact ⟨fun b r => h0 _, fun b t k => h1 _, fun b t k => h2 _, fun r j => h3 _, fun k j => h4 _⟩

/-- The result array: what the last point stored. -/
theorem arr4 : (dats m 0 c).arrAt 4 cfg0.N = outAt m c t0_7 := by
  refine (dats m 0 c).arrAt_eq_of_after_last 4 t0_7 (by decide +kernel) _ fun j => ?_
  blk_simp
  rw [after4]

theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1) = outAt m c t0_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 4).trans (arr4 m c),
      ((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).2 main_arg3 (Pipeline.mem_restRefs_of main_arg3 (by decide) (by decide))).trans (V_main_arg3 m c),
      ((h.1 c).1 1).trans (((dats m 0 c).arrAt_in 1 rfl _).trans ((A_eq m c 1).trans (V_main_arg4 m c))),
      ((h.1 c).2 main_arg5 (Pipeline.mem_restRefs_of main_arg5 (by decide) (by decide))).trans (V_main_arg5 m c)⟩) (run_main m g)

end Kernel

section Reference

open Cert.ReferenceIdeal Cert.ReferenceIdeal.Gen Cert.ReferenceIdeal.Hand

/-- The reference of real arguments, at an index. -/
theorem ref_real (A : Args) (x0 x1 x2 x3 x4 x5) (h0 : ∀ b r, x0 (ix3 b 0 r) = ((A.q b r : ℝ) : EReal)) (h1 : ∀ b t k, x1 (ix3 b t k) = ((A.kv b t k : ℝ) : EReal))
    (h2 : ∀ b t k, x2 (ix3 b t k) = ((A.kp b t k : ℝ) : EReal)) (h3 : ∀ r j, x3 (ix2 r j) = ((A.wq r j : ℝ) : EReal))
    (h4 : ∀ k j, x4 (ix2 k j) = ((A.wk k j : ℝ) : EReal)) (b : Fin 8) (j : Fin 2048) :
    rOut (F := Ideal) (rO (rKV x1 x4) (rP (rE (rM (rS (rQf (rQ x0 x3)) (rK (rKV x1 x4) (rKrot x2))))))) x5 (ix3 b 0 j)
      = Cert.Attn.out A (fun r j => x5 (ix2 r j)) b j := by
  have hq := rQ_real A x0 x3 h0 h3
  have hk := rKV_real A x1 x4 h1 h4
  have hs := rS_real A _ _ (rQf_lo A _ hq) (rQf_mid A _ hq) (rQf_hi A _ hq) (rK_lo A _ (rKrot x2) hk) (rK_mid A (rKV x1 x4) x2 h2) (rK_hi A (rKV x1 x4) x2 h2)
  exact rOut_real A _ _ (rO_real A _ _ hk (rP_real A _ (rE_real A _ fun b h t => (rM_apply _ b h t).trans (hs b h t)))) b j

end Reference

/-- The claim's equation. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_finite m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v104 m' c = Cert.KernelIdeal.Hand.outAt m c Cert.KernelIdeal.Gen.t0_7 := by
  have H := holds m c h
  funext i
  obtain ⟨b, z, j, rfl⟩ : ∃ (b : Fin 8) (z : Fin 1) (j : Fin 2048), i = ix3 b z j := ⟨i 0, i 1, i 2, eq_ix3 i⟩
  obtain rfl : z = 0 := Subsingleton.elim _ _
  refine Eq.trans ?_ (Cert.KernelIdeal.Hand.outAt_real H _ b j).symm
  refine (congrFun (Cert.ReferenceIdeal.Hand.out_eq m' c) (ix3 b 0 j)).trans ?_
  rw [e0, e1, e2, e3, e4, e5]
  exact ref_real (args m c) _ _ _ _ _ _ H.q H.kv H.kp H.wq H.wk b j

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.KI.Frame
public import proofs.«01_k».proof.Proof.K.Frame
public import proofs.«01_k».proof.Proof.Val.Equal
public import Idealize.ShloMosaic.Adequacy
public import Idealize.ShloMosaic.Init

@[expose] public section

noncomputable section

namespace Cert.Proof

open Idealize.ShloMosaic Idealize.SL.Sem Cert.Kernel

/-- The reference ends with its arguments unchanged and no semaphore counted up. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Of finite arguments both programs end with the attention's result. -/
theorem algebraic : Cert.algebraic_KernelIdeal_ReferenceIdeal_pre_finite := fun m g m' g' hp ha =>
  ⟨fun c => Cert.KernelIdeal.Hand.outAt m c Cert.KernelIdeal.Gen.t0_7, Cert.Equal.kernel_run m g,
    (θ_run Cert.ReferenceIdeal.defs _ _).mono
      (fun r h c => ⟨(h c).1.trans (Cert.Equal.results_eq m m' hp c (ha c).1 (ha c).2.1 (ha c).2.2.1 (ha c).2.2.2.1 (ha c).2.2.2.2.1 (ha c).2.2.2.2.2), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_finite.Gen.facts,
    fun m ρ _ => Cert.Kernel.Hand.frame m ρ, fun m ρ _ => Cert.KernelIdeal.Hand.frame m ρ, fun m ρ _ => Cert.KernelIdeal.Hand.frame m ρ,
    reference_frame, fun m ρ _ => reference_frame m ρ trivial, IdealRules.named_const.statement _ _ _ _ _ rfl, algebraic⟩

end Cert.Proof

end
